-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg" .f32 0xFF61B1E6#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S1000000 : Shape := ⟨1, ![1000000]⟩
abbrev S1x1000000 : Shape := ⟨2, ![1, 1000000]⟩
abbrev S64000000 : Shape := ⟨1, ![64000000]⟩
abbrev S_ : Shape := ⟨0, ![]⟩
abbrev S64x1 : Shape := ⟨2, ![64, 1]⟩
abbrev S64x32768 : Shape := ⟨2, ![64, 32768]⟩
abbrev S1x32768 : Shape := ⟨2, ![1, 32768]⟩
abbrev S64 : Shape := ⟨1, ![64]⟩

abbrev nBuf : Space → Nat
  | .hbm => 250
  | .vmem => 9
  | .smem => 0
  | _ => 0

abbrev hbmTy0_0 (i : Nat) : BufTy := match i % 128 with
  | 0 => ⟨S64x1000000, .f32⟩
  | 1 => ⟨S1000000, .f32⟩
  | 2 => ⟨S1x1000000, .f32⟩
  | 3 => ⟨S64000000, .i32⟩
  | 4 => ⟨S_, .i32⟩
  | 5 => ⟨S64000000, .i32⟩
  | 6 => ⟨S_, .i32⟩
  | 7 => ⟨S64000000, .i32⟩
  | 8 => ⟨S64000000, .i32⟩
  | 9 => ⟨S_, .i32⟩
  | 10 => ⟨S64000000, .i32⟩
  | 11 => ⟨S64000000, .i32⟩
  | 12 => ⟨S64000000, .i32⟩
  | 13 => ⟨S_, .i32⟩
  | 14 => ⟨S64000000, .i32⟩
  | 15 => ⟨S64000000, .i32⟩
  | 16 => ⟨S_, .i32⟩
  | 17 => ⟨S64000000, .i32⟩
  | 18 => ⟨S64000000, .i32⟩
  | 19 => ⟨S64000000, .i32⟩
  | 20 => ⟨S64000000, .i32⟩
  | 21 => ⟨S64000000, .i32⟩
  | 22 => ⟨S_, .i32⟩
  | 23 => ⟨S64000000, .i32⟩
  | 24 => ⟨S64000000, .i32⟩
  | 25 => ⟨S_, .i32⟩
  | 26 => ⟨S64000000, .i32⟩
  | 27 => ⟨S64000000, .i32⟩
  | 28 => ⟨S64000000, .i32⟩
  | 29 => ⟨S64000000, .i32⟩
  | 30 => ⟨S64000000, .i32⟩
  | 31 => ⟨S_, .i32⟩
  | 32 => ⟨S64000000, .i32⟩
  | 33 => ⟨S64000000, .i32⟩
  | 34 => ⟨S_, .i32⟩
  | 35 => ⟨S64000000, .i32⟩
  | 36 => ⟨S64000000, .i32⟩
  | 37 => ⟨S64000000, .i32⟩
  | 38 => ⟨S64000000, .i32⟩
  | 39 => ⟨S64000000, .i32⟩
  | 40 => ⟨S_, .i32⟩
  | 41 => ⟨S64000000, .i32⟩
  | 42 => ⟨S64000000, .i32⟩
  | 43 => ⟨S_, .i32⟩
  | 44 => ⟨S64000000, .i32⟩
  | 45 => ⟨S64000000, .i32⟩
  | 46 => ⟨S64000000, .i32⟩
  | 47 => ⟨S64000000, .i32⟩
  | 48 => ⟨S_, .i32⟩
  | 49 => ⟨S64000000, .i32⟩
  | 50 => ⟨S64000000, .i32⟩
  | 51 => ⟨S_, .i32⟩
  | 52 => ⟨S64000000, .i32⟩
  | 53 => ⟨S64000000, .i32⟩
  | 54 => ⟨S64000000, .i32⟩
  | 55 => ⟨S_, .i32⟩
  | 56 => ⟨S64000000, .i32⟩
  | 57 => ⟨S64000000, .i32⟩
  | 58 => ⟨S_, .i32⟩
  | 59 => ⟨S64000000, .i32⟩
  | 60 => ⟨S64000000, .i32⟩
  | 61 => ⟨S64000000, .i32⟩
  | 62 => ⟨S64000000, .i32⟩
  | 63 => ⟨S64000000, .i32⟩
  | 64 => ⟨S_, .i32⟩
  | 65 => ⟨S64000000, .i32⟩
  | 66 => ⟨S64000000, .i32⟩
  | 67 => ⟨S_, .i32⟩
  | 68 => ⟨S64000000, .i32⟩
  | 69 => ⟨S64000000, .i32⟩
  | 70 => ⟨S64000000, .i32⟩
  | 71 => ⟨S64000000, .i32⟩
  | 72 => ⟨S64000000, .i32⟩
  | 73 => ⟨S_, .i32⟩
  | 74 => ⟨S64000000, .i32⟩
  | 75 => ⟨S64000000, .i32⟩
  | 76 => ⟨S_, .i32⟩
  | 77 => ⟨S64000000, .i32⟩
  | 78 => ⟨S64000000, .i32⟩
  | 79 => ⟨S64000000, .i32⟩
  | 80 => ⟨S64000000, .i32⟩
  | 81 => ⟨S64000000, .i32⟩
  | 82 => ⟨S_, .i32⟩
  | 83 => ⟨S64000000, .i32⟩
  | 84 => ⟨S64000000, .i32⟩
  | 85 => ⟨S_, .i32⟩
  | 86 => ⟨S64000000, .i32⟩
  | 87 => ⟨S64000000, .i32⟩
  | 88 => ⟨S64000000, .i32⟩
  | 89 => ⟨S64000000, .i32⟩
  | 90 => ⟨S_, .i32⟩
  | 91 => ⟨S64000000, .i32⟩
  | 92 => ⟨S64000000, .i32⟩
  | 93 => ⟨S_, .i32⟩
  | 94 => ⟨S64000000, .i32⟩
  | 95 => ⟨S64000000, .i32⟩
  | 96 => ⟨S64000000, .i32⟩
  | 97 => ⟨S_, .i32⟩
  | 98 => ⟨S64000000, .i32⟩
  | 99 => ⟨S64000000, .i32⟩
  | 100 => ⟨S_, .i32⟩
  | 101 => ⟨S64000000, .i32⟩
  | 102 => ⟨S64000000, .i32⟩
  | 103 => ⟨S64000000, .i32⟩
  | 104 => ⟨S64000000, .i32⟩
  | 105 => ⟨S64000000, .i32⟩
  | 106 => ⟨S_, .i32⟩
  | 107 => ⟨S64000000, .i32⟩
  | 108 => ⟨S64000000, .i32⟩
  | 109 => ⟨S_, .i32⟩
  | 110 => ⟨S64000000, .i32⟩
  | 111 => ⟨S64000000, .i32⟩
  | 112 => ⟨S64000000, .i32⟩
  | 113 => ⟨S64000000, .i32⟩
  | 114 => ⟨S64000000, .i32⟩
  | 115 => ⟨S_, .i32⟩
  | 116 => ⟨S64000000, .i32⟩
  | 117 => ⟨S64000000, .i32⟩
  | 118 => ⟨S_, .i32⟩
  | 119 => ⟨S64000000, .i32⟩
  | 120 => ⟨S64000000, .i32⟩
  | 121 => ⟨S64000000, .i32⟩
  | 122 => ⟨S64000000, .i32⟩
  | 123 => ⟨S64000000, .i32⟩
  | 124 => ⟨S_, .i32⟩
  | 125 => ⟨S64000000, .i32⟩
  | 126 => ⟨S64000000, .i32⟩
  | 127 => ⟨S_, .i32⟩
  | _ => ⟨S64x1000000, .f32⟩

abbrev hbmTy0_1 (i : Nat) : BufTy := match i % 128 with
  | 0 => ⟨S64000000, .i32⟩
  | 1 => ⟨S64000000, .i32⟩
  | 2 => ⟨S64000000, .i32⟩
  | 3 => ⟨S64000000, .i32⟩
  | 4 => ⟨S_, .i32⟩
  | 5 => ⟨S64000000, .i32⟩
  | 6 => ⟨S64000000, .i32⟩
  | 7 => ⟨S_, .i32⟩
  | 8 => ⟨S64000000, .i32⟩
  | 9 => ⟨S64000000, .i32⟩
  | 10 => ⟨S64000000, .i32⟩
  | 11 => ⟨S_, .i32⟩
  | 12 => ⟨S64000000, .i32⟩
  | 13 => ⟨S64000000, .i32⟩
  | 14 => ⟨S_, .i32⟩
  | 15 => ⟨S64000000, .i32⟩
  | 16 => ⟨S64000000, .i32⟩
  | 17 => ⟨S64000000, .i32⟩
  | 18 => ⟨S64000000, .i32⟩
  | 19 => ⟨S64000000, .i32⟩
  | 20 => ⟨S_, .i32⟩
  | 21 => ⟨S64000000, .i32⟩
  | 22 => ⟨S64000000, .i32⟩
  | 23 => ⟨S_, .i32⟩
  | 24 => ⟨S64000000, .i32⟩
  | 25 => ⟨S64000000, .i32⟩
  | 26 => ⟨S64000000, .i32⟩
  | 27 => ⟨S64000000, .i32⟩
  | 28 => ⟨S64000000, .i32⟩
  | 29 => ⟨S_, .i32⟩
  | 30 => ⟨S64000000, .i32⟩
  | 31 => ⟨S64000000, .i32⟩
  | 32 => ⟨S_, .i32⟩
  | 33 => ⟨S64000000, .i32⟩
  | 34 => ⟨S64000000, .i32⟩
  | 35 => ⟨S64000000, .i32⟩
  | 36 => ⟨S64000000, .i32⟩
  | 37 => ⟨S64000000, .i32⟩
  | 38 => ⟨S_, .i32⟩
  | 39 => ⟨S64000000, .i32⟩
  | 40 => ⟨S64000000, .i32⟩
  | 41 => ⟨S_, .i32⟩
  | 42 => ⟨S64000000, .i32⟩
  | 43 => ⟨S64000000, .i32⟩
  | 44 => ⟨S64000000, .i32⟩
  | 45 => ⟨S64000000, .i32⟩
  | 46 => ⟨S_, .i32⟩
  | 47 => ⟨S64000000, .i32⟩
  | 48 => ⟨S64000000, .i32⟩
  | 49 => ⟨S_, .i32⟩
  | 50 => ⟨S64000000, .i32⟩
  | 51 => ⟨S64000000, .i32⟩
  | 52 => ⟨S64000000, .i32⟩
  | 53 => ⟨S_, .i32⟩
  | 54 => ⟨S64000000, .i32⟩
  | 55 => ⟨S64000000, .i32⟩
  | 56 => ⟨S_, .i32⟩
  | 57 => ⟨S64000000, .i32⟩
  | 58 => ⟨S64000000, .i32⟩
  | 59 => ⟨S64000000, .i32⟩
  | 60 => ⟨S64000000, .i32⟩
  | 61 => ⟨S64000000, .i32⟩
  | 62 => ⟨S_, .i32⟩
  | 63 => ⟨S64000000, .i32⟩
  | 64 => ⟨S64000000, .i32⟩
  | 65 => ⟨S_, .i32⟩
  | 66 => ⟨S64000000, .i32⟩
  | 67 => ⟨S64000000, .i32⟩
  | 68 => ⟨S64000000, .i32⟩
  | 69 => ⟨S64000000, .i32⟩
  | 70 => ⟨S64000000, .i32⟩
  | 71 => ⟨S_, .i32⟩
  | 72 => ⟨S64000000, .i32⟩
  | 73 => ⟨S64000000, .i32⟩
  | 74 => ⟨S_, .i32⟩
  | 75 => ⟨S64000000, .i32⟩
  | 76 => ⟨S64000000, .i32⟩
  | 77 => ⟨S64000000, .i32⟩
  | 78 => ⟨S64000000, .i32⟩
  | 79 => ⟨S64000000, .i32⟩
  | 80 => ⟨S_, .i32⟩
  | 81 => ⟨S64000000, .i32⟩
  | 82 => ⟨S64000000, .i32⟩
  | 83 => ⟨S_, .i32⟩
  | 84 => ⟨S64000000, .i32⟩
  | 85 => ⟨S64000000, .i32⟩
  | 86 => ⟨S64000000, .i32⟩
  | 87 => ⟨S64000000, .i32⟩
  | 88 => ⟨S_, .i32⟩
  | 89 => ⟨S64000000, .i32⟩
  | 90 => ⟨S64000000, .i32⟩
  | 91 => ⟨S_, .i32⟩
  | 92 => ⟨S64000000, .i32⟩
  | 93 => ⟨S64000000, .i32⟩
  | 94 => ⟨S64000000, .i32⟩
  | 95 => ⟨S64x1000000, .i32⟩
  | 96 => ⟨S_, .i32⟩
  | 97 => ⟨S64x1000000, .i32⟩
  | 98 => ⟨S64x1000000, .i32⟩
  | 99 => ⟨S_, .i32⟩
  | 100 => ⟨S64x1000000, .i32⟩
  | 101 => ⟨S64x1000000, .i32⟩
  | 102 => ⟨S64x1000000, .f32⟩
  | 103 => ⟨S_, .f32⟩
  | 104 => ⟨S64x1000000, .f32⟩
  | 105 => ⟨S64x1000000, .f32⟩
  | 106 => ⟨S_, .f32⟩
  | 107 => ⟨S_, .f32⟩
  | 108 => ⟨S_, .f32⟩
  | 109 => ⟨S64x1000000, .f32⟩
  | 110 => ⟨S64x1000000, .f32⟩
  | 111 => ⟨S_, .f32⟩
  | 112 => ⟨S64x1000000, .f32⟩
  | 113 => ⟨S64x1000000, .f32⟩
  | 114 => ⟨S_, .f32⟩
  | 115 => ⟨S64x1000000, .f32⟩
  | 116 => ⟨S64x1000000, .f32⟩
  | 117 => ⟨S64x1000000, .f32⟩
  | 118 => ⟨S64x1000000, .f32⟩
  | 119 => ⟨S64x1000000, .f32⟩
  | 120 => ⟨S64x1000000, .f32⟩
  | 121 => ⟨S64x1, .i32⟩
  | _ => ⟨S64x1000000, .f32⟩

abbrev hbmTy (i : Nat) : BufTy := match i / 128 with
  | 0 => hbmTy0_0 i
  | 1 => hbmTy0_1 i
  | _ => ⟨S64x1000000, .f32⟩

abbrev bufTy : (tb : Table) → Fin (tcTables nBuf tb) → BufTy
  | .hbm, ⟨i, _⟩ => hbmTy i
  | .local _ .vmem, ⟨0, _⟩ => ⟨S64x32768, .f32⟩
  | .local _ .vmem, ⟨1, _⟩ => ⟨S64x32768, .f32⟩
  | .local _ .vmem, ⟨2, _⟩ => ⟨S1x32768, .f32⟩
  | .local _ .vmem, ⟨3, _⟩ => ⟨S1x32768, .f32⟩
  | .local _ .vmem, ⟨4, _⟩ => ⟨S64x32768, .f32⟩
  | .local _ .vmem, ⟨5, _⟩ => ⟨S64x32768, .f32⟩
  | .local _ .vmem, ⟨6, _⟩ => ⟨S64x1, .i32⟩
  | .local _ .vmem, ⟨7, _⟩ => ⟨S64x1, .f32⟩
  | .local _ .vmem, ⟨8, _⟩ => ⟨S64x1, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_c_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_10 : Ref sig .tc := ⟨.hbm, 48, rfl⟩
abbrev main_v35 : Ref sig .tc := ⟨.hbm, 49, rfl⟩
abbrev main_v36 : Ref sig .tc := ⟨.hbm, 50, rfl⟩
abbrev main_c_11 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_12 : Ref sig .tc := ⟨.hbm, 55, rfl⟩
abbrev main_v40 : Ref sig .tc := ⟨.hbm, 56, rfl⟩
abbrev main_v41 : Ref sig .tc := ⟨.hbm, 57, rfl⟩
abbrev main_c_13 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_14 : Ref sig .tc := ⟨.hbm, 64, rfl⟩
abbrev main_v47 : Ref sig .tc := ⟨.hbm, 65, rfl⟩
abbrev main_v48 : Ref sig .tc := ⟨.hbm, 66, rfl⟩
abbrev main_c_15 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_16 : Ref sig .tc := ⟨.hbm, 73, rfl⟩
abbrev main_v54 : Ref sig .tc := ⟨.hbm, 74, rfl⟩
abbrev main_v55 : Ref sig .tc := ⟨.hbm, 75, rfl⟩
abbrev main_c_17 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_18 : Ref sig .tc := ⟨.hbm, 82, rfl⟩
abbrev main_v61 : Ref sig .tc := ⟨.hbm, 83, rfl⟩
abbrev main_v62 : Ref sig .tc := ⟨.hbm, 84, rfl⟩
abbrev main_c_19 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_20 : Ref sig .tc := ⟨.hbm, 90, rfl⟩
abbrev main_v67 : Ref sig .tc := ⟨.hbm, 91, rfl⟩
abbrev main_v68 : Ref sig .tc := ⟨.hbm, 92, rfl⟩
abbrev main_c_21 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_22 : Ref sig .tc := ⟨.hbm, 97, rfl⟩
abbrev main_v72 : Ref sig .tc := ⟨.hbm, 98, rfl⟩
abbrev main_v73 : Ref sig .tc := ⟨.hbm, 99, rfl⟩
abbrev main_c_23 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_24 : Ref sig .tc := ⟨.hbm, 106, rfl⟩
abbrev main_v79 : Ref sig .tc := ⟨.hbm, 107, rfl⟩
abbrev main_v80 : Ref sig .tc := ⟨.hbm, 108, rfl⟩
abbrev main_c_25 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_26 : Ref sig .tc := ⟨.hbm, 115, rfl⟩
abbrev main_v86 : Ref sig .tc := ⟨.hbm, 116, rfl⟩
abbrev main_v87 : Ref sig .tc := ⟨.hbm, 117, rfl⟩
abbrev main_c_27 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_28 : Ref sig .tc := ⟨.hbm, 124, rfl⟩
abbrev main_v93 : Ref sig .tc := ⟨.hbm, 125, rfl⟩
abbrev main_v94 : Ref sig .tc := ⟨.hbm, 126, rfl⟩
abbrev main_c_29 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_30 : Ref sig .tc := ⟨.hbm, 132, rfl⟩
abbrev main_v99 : Ref sig .tc := ⟨.hbm, 133, rfl⟩
abbrev main_v100 : Ref sig .tc := ⟨.hbm, 134, rfl⟩
abbrev main_c_31 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_32 : Ref sig .tc := ⟨.hbm, 139, rfl⟩
abbrev main_v104 : Ref sig .tc := ⟨.hbm, 140, rfl⟩
abbrev main_v105 : Ref sig .tc := ⟨.hbm, 141, rfl⟩
abbrev main_c_33 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_34 : Ref sig .tc := ⟨.hbm, 148, rfl⟩
abbrev main_v111 : Ref sig .tc := ⟨.hbm, 149, rfl⟩
abbrev main_v112 : Ref sig .tc := ⟨.hbm, 150, rfl⟩
abbrev main_c_35 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_36 : Ref sig .tc := ⟨.hbm, 157, rfl⟩
abbrev main_v118 : Ref sig .tc := ⟨.hbm, 158, rfl⟩
abbrev main_v119 : Ref sig .tc := ⟨.hbm, 159, rfl⟩
abbrev main_c_37 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_38 : Ref sig .tc := ⟨.hbm, 166, rfl⟩
abbrev main_v125 : Ref sig .tc := ⟨.hbm, 167, rfl⟩
abbrev main_v126 : Ref sig .tc := ⟨.hbm, 168, rfl⟩
abbrev main_c_39 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_c_40 : Ref sig .tc := ⟨.hbm, 174, rfl⟩
abbrev main_v131 : Ref sig .tc := ⟨.hbm, 175, rfl⟩
abbrev main_v132 : Ref sig .tc := ⟨.hbm, 176, rfl⟩
abbrev main_c_41 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_42 : Ref sig .tc := ⟨.hbm, 181, rfl⟩
abbrev main_v136 : Ref sig .tc := ⟨.hbm, 182, rfl⟩
abbrev main_v137 : Ref sig .tc := ⟨.hbm, 183, rfl⟩
abbrev main_c_43 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_44 : Ref sig .tc := ⟨.hbm, 190, rfl⟩
abbrev main_v143 : Ref sig .tc := ⟨.hbm, 191, rfl⟩
abbrev main_v144 : Ref sig .tc := ⟨.hbm, 192, rfl⟩
abbrev main_c_45 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_46 : Ref sig .tc := ⟨.hbm, 199, rfl⟩
abbrev main_v150 : Ref sig .tc := ⟨.hbm, 200, rfl⟩
abbrev main_v151 : Ref sig .tc := ⟨.hbm, 201, rfl⟩
abbrev main_c_47 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_c_48 : Ref sig .tc := ⟨.hbm, 208, rfl⟩
abbrev main_v157 : Ref sig .tc := ⟨.hbm, 209, rfl⟩
abbrev main_v158 : Ref sig .tc := ⟨.hbm, 210, rfl⟩
abbrev main_c_49 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_c_50 : Ref sig .tc := ⟨.hbm, 216, rfl⟩
abbrev main_v163 : Ref sig .tc := ⟨.hbm, 217, rfl⟩
abbrev main_v164 : Ref sig .tc := ⟨.hbm, 218, rfl⟩
abbrev main_c_51 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_c_52 : Ref sig .tc := ⟨.hbm, 224, rfl⟩
abbrev main_v169 : Ref sig .tc := ⟨.hbm, 225, rfl⟩
abbrev main_v170 : Ref sig .tc := ⟨.hbm, 226, rfl⟩
abbrev main_c_53 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_cst : Ref sig .tc := ⟨.hbm, 231, rfl⟩
abbrev main_v174 : Ref sig .tc := ⟨.hbm, 232, rfl⟩
abbrev main_v175 : Ref sig .tc := ⟨.hbm, 233, rfl⟩
abbrev main_cst_54 : Ref sig .tc := ⟨.hbm, 234, rfl⟩
abbrev main_cst_55 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_56 : Ref sig .tc := ⟨.hbm, 239, rfl⟩
abbrev main_v179 : Ref sig .tc := ⟨.hbm, 240, rfl⟩
abbrev main_v180 : Ref sig .tc := ⟨.hbm, 241, rfl⟩
abbrev main_cst_57 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v39 : BitVec 1 := Scalar.cmpi .eq arg0 c30_i32
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "neg" => some ⊥
  | _ => none
-- ==== ReferenceIdeal.lean ====
abbrev S64x1000000 : Shape := ⟨2, ![64, 1000000]⟩
abbrev S1000000 : Shape := ⟨1, ![1000000]⟩
abbrev S_ : Shape := ⟨0, ![]⟩
abbrev S1x1000000 : Shape := ⟨2, ![1, 1000000]⟩
abbrev S1 : Shape := ⟨1, ![1]⟩
abbrev S2 : Shape := ⟨1, ![2]⟩
abbrev S1x1 : Shape := ⟨2, ![1, 1]⟩
abbrev S64 : Shape := ⟨1, ![64]⟩
abbrev S64x1 : Shape := ⟨2, ![64, 1]⟩

abbrev nBuf : Space → Nat
  | .hbm => 293
  | .vmem => 0
  | .smem => 0
  | _ => 0

abbrev hbmTy0_0 (i : Nat) : BufTy := match i % 128 with
  | 0 => ⟨S64x1000000, .f32⟩
  | 1 => ⟨S1000000, .f32⟩
  | 2 => ⟨S_, .f32⟩
  | 3 => ⟨S64x1000000, .f32⟩
  | 4 => ⟨S64x1000000, .f32⟩
  | 5 => ⟨S1x1000000, .f32⟩
  | 6 => ⟨S64x1000000, .f32⟩
  | 7 => ⟨S64x1000000, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S_, .f32⟩
  | 22 => ⟨S1x1, .f32⟩
  | 23 => ⟨S1x1, .f32⟩
  | 24 => ⟨S1, .i32⟩
  | 25 => ⟨S_, .i32⟩
  | 26 => ⟨S1, .i32⟩
  | 27 => ⟨S_, .i32⟩
  | 28 => ⟨S64x1000000, .i64⟩
  | 29 => ⟨S64x1000000, .i64⟩
  | 30 => ⟨S_, .i64⟩
  | 31 => ⟨S64x1000000, .i64⟩
  | 32 => ⟨S64x1000000, .i64⟩
  | 33 => ⟨S_, .i64⟩
  | 34 => ⟨S64x1000000, .i64⟩
  | 35 => ⟨S64x1000000, .i64⟩
  | 36 => ⟨S64x1000000, .i64⟩
  | 37 => ⟨S_, .i64⟩
  | 38 => ⟨S64x1000000, .i64⟩
  | 39 => ⟨S64x1000000, .i64⟩
  | 40 => ⟨S64x1000000, .i32⟩
  | 41 => ⟨S64x1000000, .i32⟩
  | 42 => ⟨S_, .i32⟩
  | 43 => ⟨S_, .i32⟩
  | 44 => ⟨S_, .i32⟩
  | 45 => ⟨S64x1000000, .i32⟩
  | 46 => ⟨S64x1000000, .i32⟩
  | 47 => ⟨S64x1000000, .i32⟩
  | 48 => ⟨S64x1000000, .i32⟩
  | 49 => ⟨S64x1000000, .i32⟩
  | 50 => ⟨S_, .i32⟩
  | 51 => ⟨S64x1000000, .i32⟩
  | 52 => ⟨S64x1000000, .i32⟩
  | 53 => ⟨S_, .i32⟩
  | 54 => ⟨S64x1000000, .i32⟩
  | 55 => ⟨S64x1000000, .i32⟩
  | 56 => ⟨S64x1000000, .i32⟩
  | 57 => ⟨S64x1000000, .i32⟩
  | 58 => ⟨S64x1000000, .i32⟩
  | 59 => ⟨S_, .i32⟩
  | 60 => ⟨S64x1000000, .i32⟩
  | 61 => ⟨S64x1000000, .i32⟩
  | 62 => ⟨S_, .i32⟩
  | 63 => ⟨S64x1000000, .i32⟩
  | 64 => ⟨S64x1000000, .i32⟩
  | 65 => ⟨S64x1000000, .i32⟩
  | 66 => ⟨S64x1000000, .i32⟩
  | 67 => ⟨S64x1000000, .i32⟩
  | 68 => ⟨S_, .i32⟩
  | 69 => ⟨S64x1000000, .i32⟩
  | 70 => ⟨S64x1000000, .i32⟩
  | 71 => ⟨S_, .i32⟩
  | 72 => ⟨S64x1000000, .i32⟩
  | 73 => ⟨S64x1000000, .i32⟩
  | 74 => ⟨S64x1000000, .i32⟩
  | 75 => ⟨S64x1000000, .i32⟩
  | 76 => ⟨S64x1000000, .i32⟩
  | 77 => ⟨S_, .i32⟩
  | 78 => ⟨S64x1000000, .i32⟩
  | 79 => ⟨S64x1000000, .i32⟩
  | 80 => ⟨S_, .i32⟩
  | 81 => ⟨S64x1000000, .i32⟩
  | 82 => ⟨S64x1000000, .i32⟩
  | 83 => ⟨S64x1000000, .i32⟩
  | 84 => ⟨S64x1000000, .i32⟩
  | 85 => ⟨S64x1000000, .i32⟩
  | 86 => ⟨S64x1000000, .i32⟩
  | 87 => ⟨S64x1000000, .i32⟩
  | 88 => ⟨S64x1000000, .i32⟩
  | 89 => ⟨S_, .i32⟩
  | 90 => ⟨S64x1000000, .i32⟩
  | 91 => ⟨S64x1000000, .i32⟩
  | 92 => ⟨S64x1000000, .i32⟩
  | 93 => ⟨S_, .i32⟩
  | 94 => ⟨S64x1000000, .i32⟩
  | 95 => ⟨S64x1000000, .i32⟩
  | 96 => ⟨S_, .i32⟩
  | 97 => ⟨S64x1000000, .i32⟩
  | 98 => ⟨S64x1000000, .i32⟩
  | 99 => ⟨S64x1000000, .i32⟩
  | 100 => ⟨S64x1000000, .i32⟩
  | 101 => ⟨S64x1000000, .i32⟩
  | 102 => ⟨S_, .i32⟩
  | 103 => ⟨S64x1000000, .i32⟩
  | 104 => ⟨S64x1000000, .i32⟩
  | 105 => ⟨S_, .i32⟩
  | 106 => ⟨S64x1000000, .i32⟩
  | 107 => ⟨S64x1000000, .i32⟩
  | 108 => ⟨S64x1000000, .i32⟩
  | 109 => ⟨S64x1000000, .i32⟩
  | 110 => ⟨S64x1000000, .i32⟩
  | 111 => ⟨S_, .i32⟩
  | 112 => ⟨S64x1000000, .i32⟩
  | 113 => ⟨S64x1000000, .i32⟩
  | 114 => ⟨S_, .i32⟩
  | 115 => ⟨S64x1000000, .i32⟩
  | 116 => ⟨S64x1000000, .i32⟩
  | 117 => ⟨S64x1000000, .i32⟩
  | 118 => ⟨S64x1000000, .i32⟩
  | 119 => ⟨S64x1000000, .i32⟩
  | 120 => ⟨S_, .i32⟩
  | 121 => ⟨S64x1000000, .i32⟩
  | 122 => ⟨S64x1000000, .i32⟩
  | 123 => ⟨S_, .i32⟩
  | 124 => ⟨S64x1000000, .i32⟩
  | 125 => ⟨S64x1000000, .i32⟩
  | 126 => ⟨S64x1000000, .i32⟩
  | 127 => ⟨S64x1000000, .i32⟩
  | _ => ⟨S64x1000000, .f32⟩

abbrev hbmTy0_1 (i : Nat) : BufTy := match i % 128 with
  | 0 => ⟨S64x1000000, .i32⟩
  | 1 => ⟨S64x1000000, .i32⟩
  | 2 => ⟨S64x1000000, .i32⟩
  | 3 => ⟨S64x1000000, .i32⟩
  | 4 => ⟨S_, .i32⟩
  | 5 => ⟨S64x1000000, .i32⟩
  | 6 => ⟨S64x1000000, .i32⟩
  | 7 => ⟨S64x1000000, .i32⟩
  | 8 => ⟨S_, .i32⟩
  | 9 => ⟨S64x1000000, .i32⟩
  | 10 => ⟨S64x1000000, .i32⟩
  | 11 => ⟨S_, .i32⟩
  | 12 => ⟨S64x1000000, .i32⟩
  | 13 => ⟨S64x1000000, .i32⟩
  | 14 => ⟨S64x1000000, .i32⟩
  | 15 => ⟨S64x1000000, .i32⟩
  | 16 => ⟨S64x1000000, .i32⟩
  | 17 => ⟨S_, .i32⟩
  | 18 => ⟨S64x1000000, .i32⟩
  | 19 => ⟨S64x1000000, .i32⟩
  | 20 => ⟨S_, .i32⟩
  | 21 => ⟨S64x1000000, .i32⟩
  | 22 => ⟨S64x1000000, .i32⟩
  | 23 => ⟨S64x1000000, .i32⟩
  | 24 => ⟨S64x1000000, .i32⟩
  | 25 => ⟨S64x1000000, .i32⟩
  | 26 => ⟨S_, .i32⟩
  | 27 => ⟨S64x1000000, .i32⟩
  | 28 => ⟨S64x1000000, .i32⟩
  | 29 => ⟨S_, .i32⟩
  | 30 => ⟨S64x1000000, .i32⟩
  | 31 => ⟨S64x1000000, .i32⟩
  | 32 => ⟨S64x1000000, .i32⟩
  | 33 => ⟨S64x1000000, .i32⟩
  | 34 => ⟨S64x1000000, .i32⟩
  | 35 => ⟨S_, .i32⟩
  | 36 => ⟨S64x1000000, .i32⟩
  | 37 => ⟨S64x1000000, .i32⟩
  | 38 => ⟨S_, .i32⟩
  | 39 => ⟨S64x1000000, .i32⟩
  | 40 => ⟨S64x1000000, .i32⟩
  | 41 => ⟨S64x1000000, .i32⟩
  | 42 => ⟨S64x1000000, .i32⟩
  | 43 => ⟨S64x1000000, .i32⟩
  | 44 => ⟨S64x1000000, .i32⟩
  | 45 => ⟨S64x1000000, .i32⟩
  | 46 => ⟨S64x1000000, .i32⟩
  | 47 => ⟨S_, .i32⟩
  | 48 => ⟨S64x1000000, .i32⟩
  | 49 => ⟨S64x1000000, .i32⟩
  | 50 => ⟨S64x1000000, .i32⟩
  | 51 => ⟨S_, .i32⟩
  | 52 => ⟨S64x1000000, .i32⟩
  | 53 => ⟨S64x1000000, .i32⟩
  | 54 => ⟨S_, .i32⟩
  | 55 => ⟨S64x1000000, .i32⟩
  | 56 => ⟨S64x1000000, .i32⟩
  | 57 => ⟨S64x1000000, .i32⟩
  | 58 => ⟨S64x1000000, .i32⟩
  | 59 => ⟨S64x1000000, .i32⟩
  | 60 => ⟨S_, .i32⟩
  | 61 => ⟨S64x1000000, .i32⟩
  | 62 => ⟨S64x1000000, .i32⟩
  | 63 => ⟨S_, .i32⟩
  | 64 => ⟨S64x1000000, .i32⟩
  | 65 => ⟨S64x1000000, .i32⟩
  | 66 => ⟨S64x1000000, .i32⟩
  | 67 => ⟨S64x1000000, .i32⟩
  | 68 => ⟨S64x1000000, .i32⟩
  | 69 => ⟨S_, .i32⟩
  | 70 => ⟨S64x1000000, .i32⟩
  | 71 => ⟨S64x1000000, .i32⟩
  | 72 => ⟨S_, .i32⟩
  | 73 => ⟨S64x1000000, .i32⟩
  | 74 => ⟨S64x1000000, .i32⟩
  | 75 => ⟨S64x1000000, .i32⟩
  | 76 => ⟨S64x1000000, .i32⟩
  | 77 => ⟨S64x1000000, .i32⟩
  | 78 => ⟨S_, .i32⟩
  | 79 => ⟨S64x1000000, .i32⟩
  | 80 => ⟨S64x1000000, .i32⟩
  | 81 => ⟨S_, .i32⟩
  | 82 => ⟨S64x1000000, .i32⟩
  | 83 => ⟨S64x1000000, .i32⟩
  | 84 => ⟨S64x1000000, .i32⟩
  | 85 => ⟨S64x1000000, .i32⟩
  | 86 => ⟨S64x1000000, .i32⟩
  | 87 => ⟨S64x1000000, .i32⟩
  | 88 => ⟨S64x1000000, .i32⟩
  | 89 => ⟨S64x1000000, .i32⟩
  | 90 => ⟨S_, .i32⟩
  | 91 => ⟨S64x1000000, .i32⟩
  | 92 => ⟨S64x1000000, .i32⟩
  | 93 => ⟨S64x1000000, .i32⟩
  | 94 => ⟨S_, .i32⟩
  | 95 => ⟨S64x1000000, .i32⟩
  | 96 => ⟨S64x1000000, .i32⟩
  | 97 => ⟨S_, .i32⟩
  | 98 => ⟨S64x1000000, .i32⟩
  | 99 => ⟨S64x1000000, .i32⟩
  | 100 => ⟨S64x1000000, .i32⟩
  | 101 => ⟨S64x1000000, .i32⟩
  | 102 => ⟨S64x1000000, .i32⟩
  | 103 => ⟨S_, .i32⟩
  | 104 => ⟨S64x1000000, .i32⟩
  | 105 => ⟨S64x1000000, .i32⟩
  | 106 => ⟨S_, .i32⟩
  | 107 => ⟨S64x1000000, .i32⟩
  | 108 => ⟨S64x1000000, .i32⟩
  | 109 => ⟨S64x1000000, .i32⟩
  | 110 => ⟨S64x1000000, .i32⟩
  | 111 => ⟨S64x1000000, .i32⟩
  | 112 => ⟨S_, .i32⟩
  | 113 => ⟨S64x1000000, .i32⟩
  | 114 => ⟨S64x1000000, .i32⟩
  | 115 => ⟨S_, .i32⟩
  | 116 => ⟨S64x1000000, .i32⟩
  | 117 => ⟨S64x1000000, .i32⟩
  | 118 => ⟨S64x1000000, .i32⟩
  | 119 => ⟨S64x1000000, .i32⟩
  | 120 => ⟨S64x1000000, .i32⟩
  | 121 => ⟨S_, .i32⟩
  | 122 => ⟨S64x1000000, .i32⟩
  | 123 => ⟨S64x1000000, .i32⟩
  | 124 => ⟨S_, .i32⟩
  | 125 => ⟨S64x1000000, .i32⟩
  | 126 => ⟨S64x1000000, .i32⟩
  | 127 => ⟨S64x1000000, .i32⟩
  | _ => ⟨S64x1000000, .f32⟩

abbrev hbmTy0_2 (i : Nat) : BufTy := match i % 128 with
  | 0 => ⟨S64x1000000, .i32⟩
  | 1 => ⟨S64x1000000, .i32⟩
  | 2 => ⟨S64x1000000, .i32⟩
  | 3 => ⟨S64x1000000, .i32⟩
  | 4 => ⟨S64x1000000, .i32⟩
  | 5 => ⟨S_, .i32⟩
  | 6 => ⟨S64x1000000, .i32⟩
  | 7 => ⟨S64x1000000, .i32⟩
  | 8 => ⟨S64x1000000, .i32⟩
  | 9 => ⟨S_, .i32⟩
  | 10 => ⟨S64x1000000, .i32⟩
  | 11 => ⟨S64x1000000, .i32⟩
  | 12 => ⟨S_, .i32⟩
  | 13 => ⟨S64x1000000, .i32⟩
  | 14 => ⟨S64x1000000, .i32⟩
  | 15 => ⟨S64x1000000, .f32⟩
  | 16 => ⟨S_, .f32⟩
  | 17 => ⟨S64x1000000, .f32⟩
  | 18 => ⟨S64x1000000, .f32⟩
  | 19 => ⟨S1x1, .f32⟩
  | 20 => ⟨S64x1000000, .f32⟩
  | 21 => ⟨S64x1000000, .f32⟩
  | 22 => ⟨S64x1000000, .f32⟩
  | 23 => ⟨S64x1000000, .f32⟩
  | 24 => ⟨S64x1000000, .f32⟩
  | 25 => ⟨S64x1000000, .f32⟩
  | 26 => ⟨S64x1000000, .f32⟩
  | 27 => ⟨S64x1000000, .f32⟩
  | 28 => ⟨S64x1000000, .f32⟩
  | 29 => ⟨S64x1000000, .f32⟩
  | 30 => ⟨S64x1000000, .f32⟩
  | 31 => ⟨S64x1000000, .i32⟩
  | 32 => ⟨S_, .f32⟩
  | 33 => ⟨S_, .i32⟩
  | 34 => ⟨S64, .f32⟩
  | 35 => ⟨S64, .i32⟩
  | 36 => ⟨S64x1, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_c : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_c_1 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_call0_v0 : Ref sig .tc := ⟨.hbm, 42, rfl⟩
abbrev main_call0_call0_c : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_c_0 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_c_1 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_call0_v12 : Ref sig .tc := ⟨.hbm, 57, rfl⟩
abbrev main_call0_call0_v13 : Ref sig .tc := ⟨.hbm, 58, rfl⟩
abbrev main_call0_call0_c_2 : Ref sig .tc := ⟨.hbm, 59, rfl⟩
abbrev main_call0_call0_v14 : Ref sig .tc := ⟨.hbm, 60, rfl⟩
abbrev main_call0_call0_v15 : Ref sig .tc := ⟨.hbm, 61, rfl⟩
abbrev main_call0_call0_c_3 : Ref sig .tc := ⟨.hbm, 62, rfl⟩
abbrev main_call0_call0_v16 : Ref sig .tc := ⟨.hbm, 63, rfl⟩
abbrev main_call0_call0_v17 : Ref sig .tc := ⟨.hbm, 64, rfl⟩
abbrev main_call0_call0_v18 : Ref sig .tc := ⟨.hbm, 65, rfl⟩
abbrev main_call0_call0_v19 : Ref sig .tc := ⟨.hbm, 66, rfl⟩
abbrev main_call0_call0_v20 : Ref sig .tc := ⟨.hbm, 67, rfl⟩
abbrev main_call0_call0_c_4 : Ref sig .tc := ⟨.hbm, 68, rfl⟩
abbrev main_call0_call0_v21 : Ref sig .tc := ⟨.hbm, 69, rfl⟩
abbrev main_call0_call0_v22 : Ref sig .tc := ⟨.hbm, 70, rfl⟩
abbrev main_call0_call0_c_5 : Ref sig .tc := ⟨.hbm, 71, rfl⟩
abbrev main_call0_call0_v23 : Ref sig .tc := ⟨.hbm, 72, rfl⟩
abbrev main_call0_call0_v24 : Ref sig .tc := ⟨.hbm, 73, rfl⟩
abbrev main_call0_call0_v25 : Ref sig .tc := ⟨.hbm, 74, rfl⟩
abbrev main_call0_call0_v26 : Ref sig .tc := ⟨.hbm, 75, rfl⟩
abbrev main_call0_call0_v27 : Ref sig .tc := ⟨.hbm, 76, rfl⟩
abbrev main_call0_call0_c_6 : Ref sig .tc := ⟨.hbm, 77, rfl⟩
abbrev main_call0_call0_v28 : Ref sig .tc := ⟨.hbm, 78, rfl⟩
abbrev main_call0_call0_v29 : Ref sig .tc := ⟨.hbm, 79, rfl⟩
abbrev main_call0_call0_c_7 : Ref sig .tc := ⟨.hbm, 80, rfl⟩
abbrev main_call0_call0_v30 : Ref sig .tc := ⟨.hbm, 81, rfl⟩
abbrev main_call0_call0_v31 : Ref sig .tc := ⟨.hbm, 82, rfl⟩
abbrev main_call0_call0_v32 : Ref sig .tc := ⟨.hbm, 83, rfl⟩
abbrev main_call0_call0_v33 : Ref sig .tc := ⟨.hbm, 84, rfl⟩
abbrev main_call0_call0_v34 : Ref sig .tc := ⟨.hbm, 85, rfl⟩
abbrev main_call0_call0_v35 : Ref sig .tc := ⟨.hbm, 86, rfl⟩
abbrev main_call0_call0_v36 : Ref sig .tc := ⟨.hbm, 87, rfl⟩
abbrev main_call0_call0_v37 : Ref sig .tc := ⟨.hbm, 88, rfl⟩
abbrev main_call0_call0_c_8 : Ref sig .tc := ⟨.hbm, 89, rfl⟩
abbrev main_call0_call0_v38 : Ref sig .tc := ⟨.hbm, 90, rfl⟩
abbrev main_call0_call0_v39 : Ref sig .tc := ⟨.hbm, 91, rfl⟩
abbrev main_call0_call0_v40 : Ref sig .tc := ⟨.hbm, 92, rfl⟩
abbrev main_call0_call0_c_9 : Ref sig .tc := ⟨.hbm, 93, rfl⟩
abbrev main_call0_call0_v41 : Ref sig .tc := ⟨.hbm, 94, rfl⟩
abbrev main_call0_call0_v42 : Ref sig .tc := ⟨.hbm, 95, rfl⟩
abbrev main_call0_call0_c_10 : Ref sig .tc := ⟨.hbm, 96, rfl⟩
abbrev main_call0_call0_v43 : Ref sig .tc := ⟨.hbm, 97, rfl⟩
abbrev main_call0_call0_v44 : Ref sig .tc := ⟨.hbm, 98, rfl⟩
abbrev main_call0_call0_v45 : Ref sig .tc := ⟨.hbm, 99, rfl⟩
abbrev main_call0_call0_v46 : Ref sig .tc := ⟨.hbm, 100, rfl⟩
abbrev main_call0_call0_v47 : Ref sig .tc := ⟨.hbm, 101, rfl⟩
abbrev main_call0_call0_c_11 : Ref sig .tc := ⟨.hbm, 102, rfl⟩
abbrev main_call0_call0_v48 : Ref sig .tc := ⟨.hbm, 103, rfl⟩
abbrev main_call0_call0_v49 : Ref sig .tc := ⟨.hbm, 104, rfl⟩
abbrev main_call0_call0_c_12 : Ref sig .tc := ⟨.hbm, 105, rfl⟩
abbrev main_call0_call0_v50 : Ref sig .tc := ⟨.hbm, 106, rfl⟩
abbrev main_call0_call0_v51 : Ref sig .tc := ⟨.hbm, 107, rfl⟩
abbrev main_call0_call0_v52 : Ref sig .tc := ⟨.hbm, 108, rfl⟩
abbrev main_call0_call0_v53 : Ref sig .tc := ⟨.hbm, 109, rfl⟩
abbrev main_call0_call0_v54 : Ref sig .tc := ⟨.hbm, 110, rfl⟩
abbrev main_call0_call0_c_13 : Ref sig .tc := ⟨.hbm, 111, rfl⟩
abbrev main_call0_call0_v55 : Ref sig .tc := ⟨.hbm, 112, rfl⟩
abbrev main_call0_call0_v56 : Ref sig .tc := ⟨.hbm, 113, rfl⟩
abbrev main_call0_call0_c_14 : Ref sig .tc := ⟨.hbm, 114, rfl⟩
abbrev main_call0_call0_v57 : Ref sig .tc := ⟨.hbm, 115, rfl⟩
abbrev main_call0_call0_v58 : Ref sig .tc := ⟨.hbm, 116, rfl⟩
abbrev main_call0_call0_v59 : Ref sig .tc := ⟨.hbm, 117, rfl⟩
abbrev main_call0_call0_v60 : Ref sig .tc := ⟨.hbm, 118, rfl⟩
abbrev main_call0_call0_v61 : Ref sig .tc := ⟨.hbm, 119, rfl⟩
abbrev main_call0_call0_c_15 : Ref sig .tc := ⟨.hbm, 120, rfl⟩
abbrev main_call0_call0_v62 : Ref sig .tc := ⟨.hbm, 121, rfl⟩
abbrev main_call0_call0_v63 : Ref sig .tc := ⟨.hbm, 122, rfl⟩
abbrev main_call0_call0_c_16 : Ref sig .tc := ⟨.hbm, 123, rfl⟩
abbrev main_call0_call0_v64 : Ref sig .tc := ⟨.hbm, 124, rfl⟩
abbrev main_call0_call0_v65 : Ref sig .tc := ⟨.hbm, 125, rfl⟩
abbrev main_call0_call0_v66 : Ref sig .tc := ⟨.hbm, 126, rfl⟩
abbrev main_call0_call0_v67 : Ref sig .tc := ⟨.hbm, 127, rfl⟩
abbrev main_call0_call0_v68 : Ref sig .tc := ⟨.hbm, 128, rfl⟩
abbrev main_call0_call0_v69 : Ref sig .tc := ⟨.hbm, 129, rfl⟩
abbrev main_call0_call0_v70 : Ref sig .tc := ⟨.hbm, 130, rfl⟩
abbrev main_call0_call0_v71 : Ref sig .tc := ⟨.hbm, 131, rfl⟩
abbrev main_call0_call0_c_17 : Ref sig .tc := ⟨.hbm, 132, rfl⟩
abbrev main_call0_call0_v72 : Ref sig .tc := ⟨.hbm, 133, rfl⟩
abbrev main_call0_call0_v73 : Ref sig .tc := ⟨.hbm, 134, rfl⟩
abbrev main_call0_call0_v74 : Ref sig .tc := ⟨.hbm, 135, rfl⟩
abbrev main_call0_call0_c_18 : Ref sig .tc := ⟨.hbm, 136, rfl⟩
abbrev main_call0_call0_v75 : Ref sig .tc := ⟨.hbm, 137, rfl⟩
abbrev main_call0_call0_v76 : Ref sig .tc := ⟨.hbm, 138, rfl⟩
abbrev main_call0_call0_c_19 : Ref sig .tc := ⟨.hbm, 139, rfl⟩
abbrev main_call0_call0_v77 : Ref sig .tc := ⟨.hbm, 140, rfl⟩
abbrev main_call0_call0_v78 : Ref sig .tc := ⟨.hbm, 141, rfl⟩
abbrev main_call0_call0_v79 : Ref sig .tc := ⟨.hbm, 142, rfl⟩
abbrev main_call0_call0_v80 : Ref sig .tc := ⟨.hbm, 143, rfl⟩
abbrev main_call0_call0_v81 : Ref sig .tc := ⟨.hbm, 144, rfl⟩
abbrev main_call0_call0_c_20 : Ref sig .tc := ⟨.hbm, 145, rfl⟩
abbrev main_call0_call0_v82 : Ref sig .tc := ⟨.hbm, 146, rfl⟩
abbrev main_call0_call0_v83 : Ref sig .tc := ⟨.hbm, 147, rfl⟩
abbrev main_call0_call0_c_21 : Ref sig .tc := ⟨.hbm, 148, rfl⟩
abbrev main_call0_call0_v84 : Ref sig .tc := ⟨.hbm, 149, rfl⟩
abbrev main_call0_call0_v85 : Ref sig .tc := ⟨.hbm, 150, rfl⟩
abbrev main_call0_call0_v86 : Ref sig .tc := ⟨.hbm, 151, rfl⟩
abbrev main_call0_call0_v87 : Ref sig .tc := ⟨.hbm, 152, rfl⟩
abbrev main_call0_call0_v88 : Ref sig .tc := ⟨.hbm, 153, rfl⟩
abbrev main_call0_call0_c_22 : Ref sig .tc := ⟨.hbm, 154, rfl⟩
abbrev main_call0_call0_v89 : Ref sig .tc := ⟨.hbm, 155, rfl⟩
abbrev main_call0_call0_v90 : Ref sig .tc := ⟨.hbm, 156, rfl⟩
abbrev main_call0_call0_c_23 : Ref sig .tc := ⟨.hbm, 157, rfl⟩
abbrev main_call0_call0_v91 : Ref sig .tc := ⟨.hbm, 158, rfl⟩
abbrev main_call0_call0_v92 : Ref sig .tc := ⟨.hbm, 159, rfl⟩
abbrev main_call0_call0_v93 : Ref sig .tc := ⟨.hbm, 160, rfl⟩
abbrev main_call0_call0_v94 : Ref sig .tc := ⟨.hbm, 161, rfl⟩
abbrev main_call0_call0_v95 : Ref sig .tc := ⟨.hbm, 162, rfl⟩
abbrev main_call0_call0_c_24 : Ref sig .tc := ⟨.hbm, 163, rfl⟩
abbrev main_call0_call0_v96 : Ref sig .tc := ⟨.hbm, 164, rfl⟩
abbrev main_call0_call0_v97 : Ref sig .tc := ⟨.hbm, 165, rfl⟩
abbrev main_call0_call0_c_25 : Ref sig .tc := ⟨.hbm, 166, rfl⟩
abbrev main_call0_call0_v98 : Ref sig .tc := ⟨.hbm, 167, rfl⟩
abbrev main_call0_call0_v99 : Ref sig .tc := ⟨.hbm, 168, rfl⟩
abbrev main_call0_call0_v100 : Ref sig .tc := ⟨.hbm, 169, rfl⟩
abbrev main_call0_call0_v101 : Ref sig .tc := ⟨.hbm, 170, rfl⟩
abbrev main_call0_call0_v102 : Ref sig .tc := ⟨.hbm, 171, rfl⟩
abbrev main_call0_call0_v103 : Ref sig .tc := ⟨.hbm, 172, rfl⟩
abbrev main_call0_call0_v104 : Ref sig .tc := ⟨.hbm, 173, rfl⟩
abbrev main_call0_call0_v105 : Ref sig .tc := ⟨.hbm, 174, rfl⟩
abbrev main_call0_call0_c_26 : Ref sig .tc := ⟨.hbm, 175, rfl⟩
abbrev main_call0_call0_v106 : Ref sig .tc := ⟨.hbm, 176, rfl⟩
abbrev main_call0_call0_v107 : Ref sig .tc := ⟨.hbm, 177, rfl⟩
abbrev main_call0_call0_v108 : Ref sig .tc := ⟨.hbm, 178, rfl⟩
abbrev main_call0_call0_c_27 : Ref sig .tc := ⟨.hbm, 179, rfl⟩
abbrev main_call0_call0_v109 : Ref sig .tc := ⟨.hbm, 180, rfl⟩
abbrev main_call0_call0_v110 : Ref sig .tc := ⟨.hbm, 181, rfl⟩
abbrev main_call0_call0_c_28 : Ref sig .tc := ⟨.hbm, 182, rfl⟩
abbrev main_call0_call0_v111 : Ref sig .tc := ⟨.hbm, 183, rfl⟩
abbrev main_call0_call0_v112 : Ref sig .tc := ⟨.hbm, 184, rfl⟩
abbrev main_call0_call0_v113 : Ref sig .tc := ⟨.hbm, 185, rfl⟩
abbrev main_call0_call0_v114 : Ref sig .tc := ⟨.hbm, 186, rfl⟩
abbrev main_call0_call0_v115 : Ref sig .tc := ⟨.hbm, 187, rfl⟩
abbrev main_call0_call0_c_29 : Ref sig .tc := ⟨.hbm, 188, rfl⟩
abbrev main_call0_call0_v116 : Ref sig .tc := ⟨.hbm, 189, rfl⟩
abbrev main_call0_call0_v117 : Ref sig .tc := ⟨.hbm, 190, rfl⟩
abbrev main_call0_call0_c_30 : Ref sig .tc := ⟨.hbm, 191, rfl⟩
abbrev main_call0_call0_v118 : Ref sig .tc := ⟨.hbm, 192, rfl⟩
abbrev main_call0_call0_v119 : Ref sig .tc := ⟨.hbm, 193, rfl⟩
abbrev main_call0_call0_v120 : Ref sig .tc := ⟨.hbm, 194, rfl⟩
abbrev main_call0_call0_v121 : Ref sig .tc := ⟨.hbm, 195, rfl⟩
abbrev main_call0_call0_v122 : Ref sig .tc := ⟨.hbm, 196, rfl⟩
abbrev main_call0_call0_c_31 : Ref sig .tc := ⟨.hbm, 197, rfl⟩
abbrev main_call0_call0_v123 : Ref sig .tc := ⟨.hbm, 198, rfl⟩
abbrev main_call0_call0_v124 : Ref sig .tc := ⟨.hbm, 199, rfl⟩
abbrev main_call0_call0_c_32 : Ref sig .tc := ⟨.hbm, 200, rfl⟩
abbrev main_call0_call0_v125 : Ref sig .tc := ⟨.hbm, 201, rfl⟩
abbrev main_call0_call0_v126 : Ref sig .tc := ⟨.hbm, 202, rfl⟩
abbrev main_call0_call0_v127 : Ref sig .tc := ⟨.hbm, 203, rfl⟩
abbrev main_call0_call0_v128 : Ref sig .tc := ⟨.hbm, 204, rfl⟩
abbrev main_call0_call0_v129 : Ref sig .tc := ⟨.hbm, 205, rfl⟩
abbrev main_call0_call0_c_33 : Ref sig .tc := ⟨.hbm, 206, rfl⟩
abbrev main_call0_call0_v130 : Ref sig .tc := ⟨.hbm, 207, rfl⟩
abbrev main_call0_call0_v131 : Ref sig .tc := ⟨.hbm, 208, rfl⟩
abbrev main_call0_call0_c_34 : Ref sig .tc := ⟨.hbm, 209, rfl⟩
abbrev main_call0_call0_v132 : Ref sig .tc := ⟨.hbm, 210, rfl⟩
abbrev main_call0_call0_v133 : Ref sig .tc := ⟨.hbm, 211, rfl⟩
abbrev main_call0_call0_v134 : Ref sig .tc := ⟨.hbm, 212, rfl⟩
abbrev main_call0_call0_v135 : Ref sig .tc := ⟨.hbm, 213, rfl⟩
abbrev main_call0_call0_v136 : Ref sig .tc := ⟨.hbm, 214, rfl⟩
abbrev main_call0_call0_v137 : Ref sig .tc := ⟨.hbm, 215, rfl⟩
abbrev main_call0_call0_v138 : Ref sig .tc := ⟨.hbm, 216, rfl⟩
abbrev main_call0_call0_v139 : Ref sig .tc := ⟨.hbm, 217, rfl⟩
abbrev main_call0_call0_c_35 : Ref sig .tc := ⟨.hbm, 218, rfl⟩
abbrev main_call0_call0_v140 : Ref sig .tc := ⟨.hbm, 219, rfl⟩
abbrev main_call0_call0_v141 : Ref sig .tc := ⟨.hbm, 220, rfl⟩
abbrev main_call0_call0_v142 : Ref sig .tc := ⟨.hbm, 221, rfl⟩
abbrev main_call0_call0_c_36 : Ref sig .tc := ⟨.hbm, 222, rfl⟩
abbrev main_call0_call0_v143 : Ref sig .tc := ⟨.hbm, 223, rfl⟩
abbrev main_call0_call0_v144 : Ref sig .tc := ⟨.hbm, 224, rfl⟩
abbrev main_call0_call0_c_37 : Ref sig .tc := ⟨.hbm, 225, rfl⟩
abbrev main_call0_call0_v145 : Ref sig .tc := ⟨.hbm, 226, rfl⟩
abbrev main_call0_call0_v146 : Ref sig .tc := ⟨.hbm, 227, rfl⟩
abbrev main_call0_call0_v147 : Ref sig .tc := ⟨.hbm, 228, rfl⟩
abbrev main_call0_call0_v148 : Ref sig .tc := ⟨.hbm, 229, rfl⟩
abbrev main_call0_call0_v149 : Ref sig .tc := ⟨.hbm, 230, rfl⟩
abbrev main_call0_call0_c_38 : Ref sig .tc := ⟨.hbm, 231, rfl⟩
abbrev main_call0_call0_v150 : Ref sig .tc := ⟨.hbm, 232, rfl⟩
abbrev main_call0_call0_v151 : Ref sig .tc := ⟨.hbm, 233, rfl⟩
abbrev main_call0_call0_c_39 : Ref sig .tc := ⟨.hbm, 234, rfl⟩
abbrev main_call0_call0_v152 : Ref sig .tc := ⟨.hbm, 235, rfl⟩
abbrev main_call0_call0_v153 : Ref sig .tc := ⟨.hbm, 236, rfl⟩
abbrev main_call0_call0_v154 : Ref sig .tc := ⟨.hbm, 237, rfl⟩
abbrev main_call0_call0_v155 : Ref sig .tc := ⟨.hbm, 238, rfl⟩
abbrev main_call0_call0_v156 : Ref sig .tc := ⟨.hbm, 239, rfl⟩
abbrev main_call0_call0_c_40 : Ref sig .tc := ⟨.hbm, 240, rfl⟩
abbrev main_call0_call0_v157 : Ref sig .tc := ⟨.hbm, 241, rfl⟩
abbrev main_call0_call0_v158 : Ref sig .tc := ⟨.hbm, 242, rfl⟩
abbrev main_call0_call0_c_41 : Ref sig .tc := ⟨.hbm, 243, rfl⟩
abbrev main_call0_call0_v159 : Ref sig .tc := ⟨.hbm, 244, rfl⟩
abbrev main_call0_call0_v160 : Ref sig .tc := ⟨.hbm, 245, rfl⟩
abbrev main_call0_call0_v161 : Ref sig .tc := ⟨.hbm, 246, rfl⟩
abbrev main_call0_call0_v162 : Ref sig .tc := ⟨.hbm, 247, rfl⟩
abbrev main_call0_call0_v163 : Ref sig .tc := ⟨.hbm, 248, rfl⟩
abbrev main_call0_call0_c_42 : Ref sig .tc := ⟨.hbm, 249, rfl⟩
abbrev main_call0_call0_v164 : Ref sig .tc := ⟨.hbm, 250, rfl⟩
abbrev main_call0_call0_v165 : Ref sig .tc := ⟨.hbm, 251, rfl⟩
abbrev main_call0_call0_c_43 : Ref sig .tc := ⟨.hbm, 252, rfl⟩
abbrev main_call0_call0_v166 : Ref sig .tc := ⟨.hbm, 253, rfl⟩
abbrev main_call0_call0_v167 : Ref sig .tc := ⟨.hbm, 254, rfl⟩
abbrev main_call0_call0_v168 : Ref sig .tc := ⟨.hbm, 255, rfl⟩
abbrev main_call0_call0_v169 : Ref sig .tc := ⟨.hbm, 256, rfl⟩
abbrev main_call0_call0_v170 : Ref sig .tc := ⟨.hbm, 257, rfl⟩
abbrev main_call0_v19_0 : Ref sig .tc := ⟨.hbm, 258, rfl⟩
abbrev main_call0_call0_v172 : Ref sig .tc := ⟨.hbm, 259, rfl⟩
abbrev main_call0_call0_v173 : Ref sig .tc := ⟨.hbm, 260, rfl⟩
abbrev main_call0_call0_c_44 : Ref sig .tc := ⟨.hbm, 261, rfl⟩
abbrev main_call0_call0_v174 : Ref sig .tc := ⟨.hbm, 262, rfl⟩
abbrev main_call0_v19_1 : Ref sig .tc := ⟨.hbm, 263, rfl⟩
abbrev main_call0_v20 : Ref sig .tc := ⟨.hbm, 264, rfl⟩
abbrev main_call0_c_2 : Ref sig .tc := ⟨.hbm, 265, rfl⟩
abbrev main_call0_v21 : Ref sig .tc := ⟨.hbm, 266, rfl⟩
abbrev main_call0_v22 : Ref sig .tc := ⟨.hbm, 267, rfl⟩
abbrev main_call0_c_3 : Ref sig .tc := ⟨.hbm, 268, rfl⟩
abbrev main_call0_v23 : Ref sig .tc := ⟨.hbm, 269, rfl⟩
abbrev main_call0_v24 : Ref sig .tc := ⟨.hbm, 270, rfl⟩
abbrev main_call0_v25 : Ref sig .tc := ⟨.hbm, 271, rfl⟩
abbrev main_call0_cst : Ref sig .tc := ⟨.hbm, 272, rfl⟩
abbrev main_call0_v26 : Ref sig .tc := ⟨.hbm, 273, rfl⟩
abbrev main_call0_v27 : Ref sig .tc := ⟨.hbm, 274, rfl⟩
abbrev main_call0_v28 : Ref sig .tc := ⟨.hbm, 275, rfl⟩
abbrev main_call0_v29 : Ref sig .tc := ⟨.hbm, 276, rfl⟩
abbrev main_call0_v30 : Ref sig .tc := ⟨.hbm, 277, rfl⟩
abbrev main_call0_v31 : Ref sig .tc := ⟨.hbm, 278, rfl⟩
abbrev main_call0_v32 : Ref sig .tc := ⟨.hbm, 279, rfl⟩
abbrev main_call0_v33 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_v17 : Ref sig .tc := ⟨.hbm, 286, rfl⟩
abbrev main_call1_v0 : Ref sig .tc := ⟨.hbm, 287, rfl⟩
abbrev main_call1_cst : Ref sig .tc := ⟨.hbm, 288, rfl⟩
abbrev main_call1_c : Ref sig .tc := ⟨.hbm, 289, rfl⟩
abbrev main_call1_v1_0 : Ref sig .tc := ⟨.hbm, 290, rfl⟩
abbrev main_v18 : Ref sig .tc := ⟨.hbm, 291, rfl⟩
abbrev main_v19 : Ref sig .tc := ⟨.hbm, 292, rfl⟩

abbrev nD : Nat := 1
abbrev τ : Topo := Topo.v7x

variable {F : FTy → Type} [FloatOps F]
-- ==== Proof.KernelRun.lean ====
/- The compiled kernel's run, for the claim that it terminates, faults nowhere and leaves its arguments alone:
   nothing is said of what the result holds, so the body need only be shown to run at every point. -/
module

public import proofs.«01_k».proof.Proof.Gen.Kernel.Frame
public import proofs.«01_k».proof.Proof.Gen.Kernel.Skeleton
public import Idealize.ShloMosaic.Lib.WholeRead
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.Kernel.Gen

variable {F : FTy → Type} [FloatOps F]

local notation "𝕄" => MT nD τ sig Unit (Elt F) ℕ (UR sig nD τ) ℕ

abbrev isFirst (i : grid0.Coords) : Prop :=
  (Scalar.cmpi .ne (Scalar.extui (Scalar.cmpi .eq (BitVec.ofNat 32 (i 0).val) 0#32)) 0#32) = 1#1
abbrev isLast (i : grid0.Coords) : Prop := k0_cond2 i = 1#1

set_option maxHeartbeats 2000000 in
/-- The body at any point: the inputs' buffers keep what they hold, the other three end at something. -/
theorem run_any (c : Dev nD) (i : grid0.Coords)
    (arg1 : Memref sig .tc .vmem S64x32768 .f32) (harg1 : arg1.IsWhole)
    (arg2 : Memref sig .tc .vmem S1x32768 .f32) (harg2 : arg2.IsWhole)
    (arg3 : Memref sig .tc .vmem S64x32768 .f32) (harg3 : arg3.IsWhole)
    (arg4 : Memref sig .tc .vmem S64x1 .i32) (harg4 : arg4.IsWhole)
    (arg5 : Memref sig .tc .vmem S64x1 .f32) (harg5 : arg5.IsWhole)
    (arg6 : Memref sig .tc .vmem S64x1 .i32) (harg6 : arg6.IsWhole)
    (x0 : Vec F S64x32768 .f32) (x1 : Vec F S1x32768 .f32) (x2 : Vec F S64x32768 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  by_cases hc0 : isFirst i <;> by_cases hc1 : isLast i
  all_goals
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _, _; isplitr
      swap; · iexact H3
      ipureintro; rfl
    isplitl [HS0]
    · iexists _, _; isplitr
      swap; · iexact HS0
      ipureintro; rfl
    iexists _, _; isplitr
    swap; · iexact HS1
    ipureintro; rfl

variable (m : (ℓ : Loc nD τ sig) → Buf (Elt F) ℓ) (ρ : Dev nD → PrngReg)

/-- The proof data: the arrays as the region finds them, each input's buffer at its block, the result's buffer at
    nothing in particular (it is forgotten). -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => fun _ => 0#32
  Φ _ := Pipeline.ΦA spec0 c
  q _ := fullShare
  owed _ := 0

/-- The result's window is the forgotten one. -/
def forgets : Fin cfg0.W → Bool
  | ⟨3, _⟩ => true
  | _ => false

theorem A_eq (c : Dev nD) (w : Fin cfg0.W) : (dats m 0 c).A w = V m c (Pipeline.arrRef spec0 w) := by
  dsimp only [dats]

theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl

abbrev scV : Memref sig .tc .vmem S64x1 .f32 := Memref.whole cc0_scratch0
abbrev scI : Memref sig .tc .vmem S64x1 .i32 := Memref.whole cc0_scratch1

theorem PhiA_eq (c : Dev nD) :
    (Pipeline.ΦA spec0 c : sProp 𝕄)
      = iprop(iprop((∃ d, owns (c : Thread nD τ) scV fullShare d) ∗ (∃ d, owns (c : Thread nD τ) scI fullShare d)) ∗ (∃ r, prngReg c r)) := by
  unfold Pipeline.ΦA; rw [scopedRest0_eq]; simp only [scV, scI, owns_whole]; try rfl

abbrev ms0 (t : Fin cfg0.N) : Memref sig .tc .vmem S64x32768 .f32 := win0_0.stage (cfg0.slots t 0)
abbrev ms1 (t : Fin cfg0.N) : Memref sig .tc .vmem S1x32768 .f32 := win0_1.stage (cfg0.slots t 1)
abbrev ms2 (t : Fin cfg0.N) : Memref sig .tc .vmem S64x32768 .f32 := win0_2.stage (cfg0.slots t 2)
abbrev ms3 (t : Fin cfg0.N) : Memref sig .tc .vmem S64x1 .i32 := win0_3.stage (cfg0.slots t 3)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (iblk m c 0 t)))
    ∗ (∃ d, owns (c : Thread nD τ) (ms1 t) fullShare (win0_1.fill (grid0.coords t) d (iblk m c 1 t)))
    ∗ (∃ d, owns (c : Thread nD τ) (ms2 t) fullShare (win0_2.fill (grid0.coords t) d (iblk m c 2 t)))
    ∗ (∃ d, owns (c : Thread nD τ) (ms3 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, H3⟩
  iapply (run_any c (grid0.coords t) _ _ _ _ _ _ _ _ _ _ _ _ _ _ _ Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    iexact Hg
  isplitl [Ho]; · iexact Ho
  isplitl [H0]; · iexists _; iexact H0
  isplitl [H1]; · iexists _; iexact H1
  isplitl [H2]; · iexists _; iexact H2
  iexact H3

theorem defs₀_row (t : Fin cfg0.N) :
    defs₀ (F := F) .tc cfg0.body (cfg0.bodyArgs t (cfg0.slots t)) = bodyAt0 t := by
  unfold defs₀; rw [Defs.onTc_tc]

/-- An input's buffer handed back is stated inside the array only. -/
theorem cut_0 (c : Dev nD) (t : Fin cfg0.N) : win0_0.cut (grid0.coords t) ((dats m 0 c).after 0 t) = iblk m c 0 t :=
  win0_0.cut_fill _ _ _
theorem cut_1 (c : Dev nD) (t : Fin cfg0.N) : win0_1.cut (grid0.coords t) ((dats m 0 c).after 1 t) = iblk m c 1 t :=
  win0_1.cut_fill _ _ _
theorem cut_2 (c : Dev nD) (t : Fin cfg0.N) : win0_2.cut (grid0.coords t) ((dats m 0 c).after 2 t) = iblk m c 2 t :=
  win0_2.cut_fill _ _ _

/-- What the body returns, as the library states it for windows one of which is forgotten. -/
theorem post_le (c : Dev nD) (t : Fin cfg0.N) : bodyPost m c t ⊢
    iprop((dats m 0 c).Φ t.succ ∗ (dats m 0 c).owesAt () t.succ
      ∗ (dats m 0 c).leaves 0 t ∗ (dats m 0 c).leaves 1 t ∗ (dats m 0 c).leaves 2 t
      ∗ (∃ d, owns (c : Thread nD τ) (ms3 t) fullShare d)) := by
  have e0 : ((dats m 0 c).leaves 0 t : sProp 𝕄) = iprop(∃ d, owns (c : Thread nD τ) (ms0 t) fullShare (win0_0.fill (grid0.coords t) d (iblk m c 0 t))) := by
    rw [← cut_0]; rfl
  have e1 : ((dats m 0 c).leaves 1 t : sProp 𝕄) = iprop(∃ d, owns (c : Thread nD τ) (ms1 t) fullShare (win0_1.fill (grid0.coords t) d (iblk m c 1 t))) := by
    rw [← cut_1]; rfl
  have e2 : ((dats m 0 c).leaves 2 t : sProp 𝕄) = iprop(∃ d, owns (c : Thread nD τ) (ms2 t) fullShare (win0_2.fill (grid0.coords t) d (iblk m c 2 t))) := by
    rw [← cut_2]; rfl
  rw [e0, e1, e2]
  exact .rfl

theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => post_le m c t

set_option backward.isDefEq.respectTransparency.types false in
/-- The run: it ends with the inputs' arrays as the region found them and the counters at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hΦ := fun _ _ => rfl)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1.arr_in c 0 rfl).trans ((A_eq m c 0).trans (V_main_arg0 m c)),
      ((h.1 c).2 main_arg1 (Pipeline.mem_restRefs_of main_arg1 (by decide) (by decide))).trans (V_main_arg1 m c)⟩, h.2⟩) (run_main m ρ)

end Cert.Kernel.Hand

end
-- ==== Proof.Body.lean ====
/- What one grid point of the kernel does: on whole staging buffers holding the three blocks, and on the two
   carried columns (the best value so far and its position), the body runs and leaves the columns one step
   further on; the last point also copies the positions to the result's buffer. -/
module

public import proofs.«01_k».proof.Proof.Gen.KernelIdeal.Frame
public import proofs.«01_k».proof.Proof.Gen.KernelIdeal.Skeleton
public import Idealize.ShloMosaic.Lib.WholeRead
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The best value per row after a block, from the best before it. -/
abbrev stV (i : grid0.Coords) (x0 : Vec F S64x32768 .f32) (x1 : Vec F S1x32768 .f32) (x2 : Vec F S64x32768 .f32)
    (bv : Vec F S64x1 .f32) : Vec F S64x1 .f32 := k0_pay9 i x0 x1 x2 bv bv

/-- The position of the best value per row after a block, from the best value and position before it. -/
abbrev stI (i : grid0.Coords) (x0 : Vec F S64x32768 .f32) (x1 : Vec F S1x32768 .f32) (x2 : Vec F S64x32768 .f32)
    (bv : Vec F S64x1 .f32) (bi : Vec F S64x1 .i32) : Vec F S64x1 .i32 :=
  k0_pay1 (F := F) (k0_pay7 i x0 x1 x2) (k0_pay8 i x0 x1 x2 bv) bi

/-- The first point is the one that resets the carried columns. -/
abbrev isFirst (i : grid0.Coords) : Prop :=
  (Scalar.cmpi .ne (Scalar.extui (Scalar.cmpi .eq (BitVec.ofNat 32 (i 0).val) 0#32)) 0#32) = 1#1

/-- The last point is the one that copies the positions out. -/
abbrev isLast (i : grid0.Coords) : Prop := k0_cond2 i = 1#1

theorem off_zero : (![0, 0] : Fin 2 → Nat) = fun _ => 0 := by decide

/-- A load of a whole buffer reads its contents. -/
theorem readAt_whole {s : Shape} {e : EltTy} {m : Memref sig .tc .vmem s e} (h : m.IsWhole) (X : s.Idx → Elt F e)
    {off : Fin s.rank → Nat} (ho : off = fun _ => 0) (inb : ∀ a, off a + s.size a ≤ s.size a) :
    m.view.readAt (Elt F) (Rect.unit off s.size inb).toLoadRect (h.unread X) = X := by
  funext x
  rw [h.readAt_unread]
  exact congrFun (View.ld_unit_zero (Val := Elt F) (e := e) ho inb X) x

/-- What a whole buffer holds after a store of `w` through all of it, whatever was stored before. -/
theorem read_stored {s : Shape} {e : EltTy} {m : Memref sig .tc .vmem s e} (f : m.view.ty.Contents (Elt F))
    {off : Fin s.rank → Nat} (ho : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  rw [View.read_writes_eq_canon _ _ _ fun y => ⟨_, List.mem_cons_self, View.mem_set_unit_zero ho inb y⟩,
    View.canon_cons_unit_zero ho]

set_option maxHeartbeats 1000000 in
/-- A point that neither starts nor ends the row: the carried columns go one step on. -/
theorem run_mid (c : Dev nD) (i : grid0.Coords)
    (arg1 : Memref sig .tc .vmem S64x32768 .f32) (harg1 : arg1.IsWhole)
    (arg2 : Memref sig .tc .vmem S1x32768 .f32) (harg2 : arg2.IsWhole)
    (arg3 : Memref sig .tc .vmem S64x32768 .f32) (harg3 : arg3.IsWhole)
    (arg4 : Memref sig .tc .vmem S64x1 .i32) (harg4 : arg4.IsWhole)
    (arg5 : Memref sig .tc .vmem S64x1 .f32) (harg5 : arg5.IsWhole)
    (arg6 : Memref sig .tc .vmem S64x1 .i32) (harg6 : arg6.IsWhole)
    (hc0 : ¬isFirst i) (hc1 : ¬isLast i)
    (x0 : Vec F S64x32768 .f32) (x1 : Vec F S1x32768 .f32) (x2 : Vec F S64x32768 .f32) (bv : Vec F S64x1 .f32) (bi : Vec F S64x1 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare bv ∗ owns (c : Thread nD τ) arg6 fullShare bi
        ∗ (iprop(owns (c : Thread nD τ) arg1 fullShare x0 ∗ owns (c : Thread nD τ) arg2 fullShare x1 ∗ owns (c : Thread nD τ) arg3 fullShare x2 ∗ owns (c : Thread nD τ) arg5 fullShare (stV i x0 x1 x2 bv) ∗ owns (c : Thread nD τ) arg6 fullShare (stI i x0 x1 x2 bv bi)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg5.eq_unread hfs0; obtain rfl := harg6.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    refine (read_stored _ off_zero _ _ _).trans ?_
    simp only [readAt_whole (s := S64x32768) _ _ off_zero, readAt_whole (s := S1x32768) _ _ off_zero,
      readAt_whole (s := S64x1) _ _ off_zero]
  iexists _; isplitr
  swap; · iexact HS1
  ipureintro
  refine (read_stored _ off_zero _ _ _).trans ?_
  unfold run_mid.sl.r run_mid.sl.r_1 run_mid.sl.r_2
  simp only [readAt_whole (s := S64x32768) _ _ off_zero, readAt_whole (s := S1x32768) _ _ off_zero,
      readAt_whole (s := S64x1) _ _ off_zero]

set_option maxHeartbeats 1000000 in
/-- The last point: one step on, and the positions copied to the result's buffer, which held anything. -/
theorem run_last (c : Dev nD) (i : grid0.Coords)
    (arg1 : Memref sig .tc .vmem S64x32768 .f32) (harg1 : arg1.IsWhole)
    (arg2 : Memref sig .tc .vmem S1x32768 .f32) (harg2 : arg2.IsWhole)
    (arg3 : Memref sig .tc .vmem S64x32768 .f32) (harg3 : arg3.IsWhole)
    (arg4 : Memref sig .tc .vmem S64x1 .i32) (harg4 : arg4.IsWhole)
    (arg5 : Memref sig .tc .vmem S64x1 .f32) (harg5 : arg5.IsWhole)
    (arg6 : Memref sig .tc .vmem S64x1 .i32) (harg6 : arg6.IsWhole)
    (hc0 : ¬isFirst i) (hc1 : isLast i)
    (x0 : Vec F S64x32768 .f32) (x1 : Vec F S1x32768 .f32) (x2 : Vec F S64x32768 .f32) (bv : Vec F S64x1 .f32) (bi : Vec F S64x1 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare bv ∗ owns (c : Thread nD τ) arg6 fullShare bi
        ∗ (iprop(owns (c : Thread nD τ) arg1 fullShare x0 ∗ owns (c : Thread nD τ) arg2 fullShare x1 ∗ owns (c : Thread nD τ) arg3 fullShare x2 ∗ owns (c : Thread nD τ) arg4 fullShare (stI i x0 x1 x2 bv bi) ∗ owns (c : Thread nD τ) arg5 fullShare (stV i x0 x1 x2 bv) ∗ owns (c : Thread nD τ) arg6 fullShare (stI i x0 x1 x2 bv bi)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg5.eq_unread hfs0; obtain rfl := harg6.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_stored _ off_zero _ _ _).trans ?_
    unfold run_last.sl.v42 run_last.sl.HS1_1
    rw [View.readCov_unit_zero (S := S64x1) _ off_zero]
    unfold run_last.sl.r run_last.sl.r_1 run_last.sl.r_2
    simp only [readAt_whole (s := S64x32768) _ _ off_zero, readAt_whole (s := S1x32768) _ _ off_zero,
      readAt_whole (s := S64x1) _ _ off_zero]
  isplitl [HS0]
  · iexists _; isplitr
    swap; · iexact HS0
    ipureintro
    refine (read_stored _ off_zero _ _ _).trans ?_
    simp only [readAt_whole (s := S64x32768) _ _ off_zero, readAt_whole (s := S1x32768) _ _ off_zero,
      readAt_whole (s := S64x1) _ _ off_zero]
  iexists _; isplitr
  swap; · iexact HS1
  ipureintro
  refine (read_stored _ off_zero _ _ _).trans ?_
  unfold run_last.sl.r run_last.sl.r_1 run_last.sl.r_2
  simp only [readAt_whole (s := S64x32768) _ _ off_zero, readAt_whole (s := S1x32768) _ _ off_zero,
      readAt_whole (s := S64x1) _ _ off_zero]

set_option maxHeartbeats 1000000 in
/-- The first point: the carried columns, which held anything, go one step on from the reset ones. -/
theorem run_first (c : Dev nD) (i : grid0.Coords)
    (arg1 : Memref sig .tc .vmem S64x32768 .f32) (harg1 : arg1.IsWhole)
    (arg2 : Memref sig .tc .vmem S1x32768 .f32) (harg2 : arg2.IsWhole)
    (arg3 : Memref sig .tc .vmem S64x32768 .f32) (harg3 : arg3.IsWhole)
    (arg4 : Memref sig .tc .vmem S64x1 .i32) (harg4 : arg4.IsWhole)
    (arg5 : Memref sig .tc .vmem S64x1 .f32) (harg5 : arg5.IsWhole)
    (arg6 : Memref sig .tc .vmem S64x1 .i32) (harg6 : arg6.IsWhole)
    (hc0 : isFirst i) (hc1 : ¬isLast i)
    (x0 : Vec F S64x32768 .f32) (x1 : Vec F S1x32768 .f32) (x2 : Vec F S64x32768 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg5 fullShare (stV i x0 x1 x2 (k0_pay2 (F := F))) ∗ owns (c : Thread nD τ) arg6 fullShare (stI i x0 x1 x2 (k0_pay2 (F := F)) k0_pay3)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    refine (read_stored _ off_zero _ _ _).trans ?_
    unfold run_first.sl.v27 run_first.sl.HS0_1
    rw [View.readCov_unit_zero (S := S64x1) _ off_zero]
    simp only [readAt_whole (s := S64x32768) _ _ off_zero, readAt_whole (s := S1x32768) _ _ off_zero,
      readAt_whole (s := S64x1) _ _ off_zero]
  iexists _; isplitr
  swap; · iexact HS1
  ipureintro
  refine (read_stored _ off_zero _ _ _).trans ?_
  unfold run_first.sl.r run_first.sl.r_1 run_first.sl.v34 run_first.sl.v27 run_first.sl.HS0_1 run_first.sl.HS1_1
  rw [View.readCov_unit_zero (S := S64x1) _ off_zero, View.readCov_unit_zero (S := S64x1) _ off_zero]
  simp only [readAt_whole (s := S64x32768) _ _ off_zero, readAt_whole (s := S1x32768) _ _ off_zero,
      readAt_whole (s := S64x1) _ _ off_zero]

end Cert.KernelIdeal.Hand

end
-- ==== Proof.Fill.lean ====
/- The staged blocks of the three inputs. The last block overhangs the arrays: past the array's end a staging
   buffer holds whatever it held. The columns the kernel keeps are those inside the arrays, so what it computes
   does not depend on the rest. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal.Gen

variable {F : FTy → Type} [FloatOps F] [Named F]

/-- The grid coordinate of a point is the point. -/
theorem coord_val (t : Fin cfg0.N) : (grid0.coords t 0).val = t.val := by
  have ht : t.val < 31 := Nat.lt_of_lt_of_eq t.isLt N_0
  have e0 : (grid0.coords t 0).val = t.val / 1 % 31 := Pipeline.Grid.coords_val t 0 (by decide) rfl
  omega

theorem isFirst_iff (t : Fin cfg0.N) : isFirst (grid0.coords t) ↔ t.val = 0 := by
  have ht : t.val < 31 := Nat.lt_of_lt_of_eq t.isLt N_0
  simp only [isFirst, coord_val t]
  word_cmp

theorem isLast_iff (t : Fin cfg0.N) : isLast (grid0.coords t) ↔ t.val = 30 := by
  have ht : t.val < 31 := Nat.lt_of_lt_of_eq t.isLt N_0
  simp only [isLast, k0_cond2, coord_val t]
  word_cmp

/-- The cut sizes of the three input blocks. -/
theorem xsize0 : ∀ t : Fin cfg0.N, win0_0.xsize (grid0.coords t) 0 = 64
    ∧ win0_0.xsize (grid0.coords t) 1 = min 32768 (1000000 - t.val * 32768) := by decide +kernel
theorem xsize1 : ∀ t : Fin cfg0.N, win0_1.xsize (grid0.coords t) 0 = 1
    ∧ win0_1.xsize (grid0.coords t) 1 = min 32768 (1000000 - t.val * 32768) := by decide +kernel
theorem xsize2 : ∀ t : Fin cfg0.N, win0_2.xsize (grid0.coords t) 0 = 64
    ∧ win0_2.xsize (grid0.coords t) 1 = min 32768 (1000000 - t.val * 32768) := by decide +kernel

/-- A column of a block lies inside the arrays. -/
abbrev inside (t : Fin cfg0.N) (j : S64x32768.Idx) : Prop := t.val * 32768 + (j 1).val < 1000000

theorem moved0 (t : Fin cfg0.N) (j : S64x32768.Idx) (h : inside t j) : win0_0.moved (grid0.coords t) j = true := by
  refine (win0_0.moved_iff _ _).mpr fun a => ?_
  have h0 := (j 0).isLt; have h1 := (j 1).isLt
  have e := xsize0 t
  change (j 0).val < 64 at h0; change (j 1).val < 32768 at h1
  match a with
  | ⟨0, _⟩ => exact lt_of_lt_of_eq h0 e.1.symm
  | ⟨1, _⟩ => exact lt_of_lt_of_eq (show (j 1).val < min 32768 (1000000 - t.val * 32768) by unfold inside at h; omega) e.2.symm

theorem moved2 (t : Fin cfg0.N) (j : S64x32768.Idx) (h : inside t j) : win0_2.moved (grid0.coords t) j = true := by
  refine (win0_2.moved_iff _ _).mpr fun a => ?_
  have h0 := (j 0).isLt; have h1 := (j 1).isLt
  have e := xsize2 t
  change (j 0).val < 64 at h0; change (j 1).val < 32768 at h1
  match a with
  | ⟨0, _⟩ => exact lt_of_lt_of_eq h0 e.1.symm
  | ⟨1, _⟩ => exact lt_of_lt_of_eq (show (j 1).val < min 32768 (1000000 - t.val * 32768) by unfold inside at h; omega) e.2.symm

theorem moved1 (t : Fin cfg0.N) (j : S1x32768.Idx) (h : t.val * 32768 + (j 1).val < 1000000) :
    win0_1.moved (grid0.coords t) j = true := by
  refine (win0_1.moved_iff _ _).mpr fun a => ?_
  have h0 := (j 0).isLt; have h1 := (j 1).isLt
  have e := xsize1 t
  change (j 0).val < 1 at h0; change (j 1).val < 32768 at h1
  match a with
  | ⟨0, _⟩ => exact lt_of_lt_of_eq h0 e.1.symm
  | ⟨1, _⟩ => exact lt_of_lt_of_eq (show (j 1).val < min 32768 (1000000 - t.val * 32768) by omega) e.2.symm

/-- The position a column of a block stands for. -/
theorem pay4_apply (t : Fin cfg0.N) (j : S64x32768.Idx) :
    k0_pay4 (grid0.coords t) j = BitVec.ofNat 32 (t.val * 32768 + (j 1).val) := by
  have ht : t.val < 31 := Nat.lt_of_lt_of_eq t.isLt N_0
  have h1 : (j 1).val < 32768 := (j 1).isLt
  unfold k0_pay4
  show BitVec.ofNat 32 (0 * 32768 + (j 1).val) + BitVec.ofNat 32 (grid0.coords t 0).val * 32768#32 = _
  rw [coord_val t]
  apply BitVec.eq_of_toNat_eq
  simp
  omega

/-- The test against the number of columns. -/
theorem pay4_slt (t : Fin cfg0.N) (j : S64x32768.Idx) :
    Scalar.cmpi .slt (k0_pay4 (grid0.coords t) j) 1000000#32 = 1#1 ↔ inside t j := by
  have ht : t.val < 31 := Nat.lt_of_lt_of_eq t.isLt N_0
  have h1 : (j 1).val < 32768 := (j 1).isLt
  rw [pay4_apply]
  unfold inside
  word_cmp

/-- The row of the mask block that a column reads. -/
abbrev row0 (j : S64x32768.Idx) : S1x32768.Idx := fun a => match a with | ⟨0, _⟩ => (0 : Fin 1) | ⟨1, _⟩ => j 1

/-- The masked sum at an element. -/
theorem pay5_apply (t : Fin cfg0.N) (x0 : Vec F S64x32768 .f32) (x1 : Vec F S1x32768 .f32) (x2 : Vec F S64x32768 .f32)
    (j : S64x32768.Idx) :
    k0_pay5 (grid0.coords t) x0 x1 x2 j
      = if inside t j then FloatOps.addf (FloatOps.addf (x0 j) (x1 (row0 j))) (x2 j) else Named.named κ "neg" 0xFF61B1E6#32 := by
  have e1 : broadcastTo S64x32768 x1 broadcasts_S1x32768_S64x32768 j = x1 (row0 j) := by
    unfold broadcastTo
    congr 1
    funext a
    match a with
    | ⟨0, _⟩ => rfl
    | ⟨1, _⟩ => rfl
  unfold k0_pay5
  simp only [shapeCast_self]
  show (if Scalar.cmpi .slt (k0_pay4 (grid0.coords t) j) 1000000#32 = 1#1 then
      FloatOps.addf (FloatOps.addf (x0 j) (broadcastTo S64x32768 x1 broadcasts_S1x32768_S64x32768 j)) (x2 j)
      else Named.named κ "neg" 0xFF61B1E6#32) = _
  rw [e1]
  exact if_congr (pay4_slt t j) rfl rfl

/-- Filled inputs agreeing inside the arrays give the same masked sums. -/
theorem pay5_fill (t : Fin cfg0.N) (b0 : (win0_0.xblock (grid0.coords t)).Idx → Elt F .f32)
    (b1 : (win0_1.xblock (grid0.coords t)).Idx → Elt F .f32) (b2 : (win0_2.xblock (grid0.coords t)).Idx → Elt F .f32)
    (d0 e0 : S64x32768.Idx → Elt F .f32) (d1 e1 : S1x32768.Idx → Elt F .f32) (d2 e2 : S64x32768.Idx → Elt F .f32) :
    k0_pay5 (grid0.coords t) (win0_0.fill (grid0.coords t) d0 b0) (win0_1.fill (grid0.coords t) d1 b1) (win0_2.fill (grid0.coords t) d2 b2)
    = k0_pay5 (grid0.coords t) (win0_0.fill (grid0.coords t) e0 b0) (win0_1.fill (grid0.coords t) e1 b1) (win0_2.fill (grid0.coords t) e2 b2) := by
  funext j
  rw [pay5_apply, pay5_apply]
  split
  · next h =>
    have h0 := moved0 t j h
    have h1 := moved1 t (row0 j) h
    have h2 := moved2 t j h
    unfold Pipeline.Window.fill
    rw [dif_pos h0, dif_pos h0, dif_pos h1, dif_pos h1, dif_pos h2, dif_pos h2]
  · rfl

/-- Two triples of blocks with the same masked sums take the carried columns to the same place. -/
theorem step_congr {i : grid0.Coords} {x0 y0 : Vec F S64x32768 .f32} {x1 y1 : Vec F S1x32768 .f32} {x2 y2 : Vec F S64x32768 .f32}
    (h : k0_pay5 i x0 x1 x2 = k0_pay5 i y0 y1 y2) (bv : Vec F S64x1 .f32) (bi : Vec F S64x1 .i32) :
    stV i x0 x1 x2 bv = stV i y0 y1 y2 bv ∧ stI i x0 x1 x2 bv bi = stI i y0 y1 y2 bv bi := by
  have h6 : k0_pay6 i x0 x1 x2 = k0_pay6 i y0 y1 y2 := by unfold k0_pay6; rw [h]
  have h7 : k0_pay7 i x0 x1 x2 = k0_pay7 i y0 y1 y2 := by unfold k0_pay7; rw [h, h6]
  have h8 : k0_pay8 i x0 x1 x2 bv = k0_pay8 i y0 y1 y2 bv := by unfold k0_pay8; rw [h6]
  constructor
  · show k0_pay9 i x0 x1 x2 bv bv = k0_pay9 i y0 y1 y2 bv bv
    unfold k0_pay9; rw [h6, h8]
  · show k0_pay1 (F := F) _ _ bi = k0_pay1 (F := F) _ _ bi
    rw [h7, h8]

end Cert.KernelIdeal.Hand

end
-- ==== Proof.Run.lean ====
/- The idealized kernel's run: the pipeline's proof data (the carried columns after each point), the body
   obligation at every point, and the run of the whole program. -/
module

public import proofs.«01_k».proof.Proof.Fill
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The three inputs' blocks at a point, the columns past the arrays' end filled with the zero word. -/
def xb (c : Dev nD) (t : Fin cfg0.N) : Vec F S64x32768 .f32 :=
  win0_0.fill (grid0.coords t) (fun _ => Scalar.ofBits .f32 0#32) (iblk m c 0 t)
def mb (c : Dev nD) (t : Fin cfg0.N) : Vec F S1x32768 .f32 :=
  win0_1.fill (grid0.coords t) (fun _ => Scalar.ofBits .f32 0#32) (iblk m c 1 t)
def gb (c : Dev nD) (t : Fin cfg0.N) : Vec F S64x32768 .f32 :=
  win0_2.fill (grid0.coords t) (fun _ => Scalar.ofBits .f32 0#32) (iblk m c 2 t)

/-- The carried columns after the first `n` points. -/
def carried (c : Dev nD) : (n : ℕ) → n ≤ cfg0.N → Vec F S64x1 .f32 × Vec F S64x1 .i32
  | 0, _ => (k0_pay2 (F := F), k0_pay3)
  | n + 1, h =>
    (stV (grid0.coords ⟨n, h⟩) (xb m c ⟨n, h⟩) (mb m c ⟨n, h⟩) (gb m c ⟨n, h⟩) (carried c n (Nat.le_of_succ_le h)).1,
     stI (grid0.coords ⟨n, h⟩) (xb m c ⟨n, h⟩) (mb m c ⟨n, h⟩) (gb m c ⟨n, h⟩) (carried c n (Nat.le_of_succ_le h)).1
       (carried c n (Nat.le_of_succ_le h)).2)

/-- The step from a point to the next, whatever the staging buffers hold past the arrays' end. -/
theorem carried_step (c : Dev nD) (t : Fin cfg0.N) (d0 : S64x32768.Idx → Elt F .f32) (d1 : S1x32768.Idx → Elt F .f32)
    (d2 : S64x32768.Idx → Elt F .f32) :
    stV (grid0.coords t) (win0_0.fill (grid0.coords t) d0 (iblk m c 0 t)) (win0_1.fill (grid0.coords t) d1 (iblk m c 1 t))
        (win0_2.fill (grid0.coords t) d2 (iblk m c 2 t)) (carried m c t.val (Nat.le_of_lt t.isLt)).1
      = (carried m c (t.val + 1) t.isLt).1
    ∧ stI (grid0.coords t) (win0_0.fill (grid0.coords t) d0 (iblk m c 0 t)) (win0_1.fill (grid0.coords t) d1 (iblk m c 1 t))
        (win0_2.fill (grid0.coords t) d2 (iblk m c 2 t)) (carried m c t.val (Nat.le_of_lt t.isLt)).1
        (carried m c t.val (Nat.le_of_lt t.isLt)).2
      = (carried m c (t.val + 1) t.isLt).2 :=
  step_congr (pay5_fill t (iblk m c 0 t) (iblk m c 1 t) (iblk m c 2 t) d0 _ d1 _ d2 _) _ _

/-- The scratch operands: whole buffers of the kernel's own. -/
abbrev scV : Memref sig .tc .vmem S64x1 .f32 := Memref.whole cc0_scratch0
abbrev scI : Memref sig .tc .vmem S64x1 .i32 := Memref.whole cc0_scratch1

/-- What the launch hands over besides the windows: the scratch buffers at anything, and the generator. -/
theorem PhiA_eq (c : Dev nD) :
    (Pipeline.ΦA spec0 c : sProp 𝕄)
      = iprop(iprop((∃ d, owns (c : Thread nD τ) scV fullShare d) ∗ (∃ d, owns (c : Thread nD τ) scI fullShare d)) ∗ (∃ r, prngReg c r)) := by
  unfold Pipeline.ΦA; rw [scopedRest0_eq]; simp only [scV, scI, owns_whole]; try rfl

/-- The invariant before a point: at the first the scratch buffers hold anything, then the carried columns. -/
def Phi (c : Dev nD) : (n : ℕ) → n ≤ cfg0.N → sProp 𝕄
  | 0, _ => Pipeline.ΦA spec0 c
  | n + 1, hn => iprop(iprop(owns (c : Thread nD τ) scV fullShare (carried m c (n + 1) hn).1
      ∗ owns (c : Thread nD τ) scI fullShare (carried m c (n + 1) hn).2) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scV fullShare (carried m c n h).1
      ∗ owns (c : Thread nD τ) scI fullShare (carried m c n h).2) ∗ (∃ r, prngReg c r)) := by
  cases n with
  | zero => exact absurd rfl hz
  | succ n => rfl

/-- The proof data of the pipeline: the arrays as the region finds them, each input's buffer at its block, the
    result's buffer at the positions carried; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xb m c t
    | ⟨1, _⟩ => mb m c t
    | ⟨2, _⟩ => gb m c t
    | ⟨3, _⟩ => (carried m c (t.val + 1) t.isLt).2
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_3 (c : Dev nD) (t : Fin cfg0.N) : (dats m 0 c).after 3 t = (carried m c (t.val + 1) t.isLt).2 := by
  dsimp only [dats]

/-- The inputs' buffers have just been fetched. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl

theorem idle_3 : ∀ t : Fin cfg0.N, ¬isLast (grid0.coords t) → cfg0.idle 3 (grid0.coords t) = true := by decide +kernel
theorem noFlush_3 : ∀ t : Fin cfg0.N, ¬isLast (grid0.coords t) → (cfg0.win 3).flush t = false := by decide +kernel
theorem live_3 : ∀ t : Fin cfg0.N, isLast (grid0.coords t) → cfg0.idle 3 (grid0.coords t) = false := by decide +kernel

/-- Each window's current staging buffer at a point. -/
abbrev ms0 (t : Fin cfg0.N) : Memref sig .tc .vmem S64x32768 .f32 := win0_0.stage (cfg0.slots t 0)
abbrev ms1 (t : Fin cfg0.N) : Memref sig .tc .vmem S1x32768 .f32 := win0_1.stage (cfg0.slots t 1)
abbrev ms2 (t : Fin cfg0.N) : Memref sig .tc .vmem S64x32768 .f32 := win0_2.stage (cfg0.slots t 2)
abbrev ms3 (t : Fin cfg0.N) : Memref sig .tc .vmem S64x1 .i32 := win0_3.stage (cfg0.slots t 3)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: an input's buffer as it was inside the array, the result's as its window says. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (iblk m c 0 t)))
    ∗ (∃ d, owns (c : Thread nD τ) (ms1 t) fullShare (win0_1.fill (grid0.coords t) d (iblk m c 1 t)))
    ∗ (∃ d, owns (c : Thread nD τ) (ms2 t) fullShare (win0_2.fill (grid0.coords t) d (iblk m c 2 t)))
    ∗ (dats m 0 c).leavesExact 3 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Phi m c (t.val + 1) t.isLt from rfl, Phi_pos m c _ _ (Nat.succ_ne_zero _)]
  have hN : t.val < 31 := lt_of_lt_of_eq t.isLt (show cfg0.N = 31 from N_0)
  by_cases h1 : isLast (grid0.coords t)
  · have h30 := (isLast_iff t).mp h1
    have h0 : ¬isFirst (grid0.coords t) := fun h => by have := (isFirst_iff t).mp h; omega
    rw [show (dats m 0 c).leavesExact 3 t = owns (c : Thread nD τ) (ms3 t) fullShare ((dats m 0 c).after 3 t) from by
      unfold Dat.leavesExact; rw [live_3 t h1], after_3]
    rw [Phi_castSucc m c t, Phi_pos m c _ _ (by omega)]
    iintro ⟨⟨⟨HS0, HS1⟩, Hg⟩, Ho, ⟨%d0, H0⟩, ⟨%d1, H1⟩, ⟨%d2, H2⟩, ⟨%d3, H3⟩⟩
    rw [← (carried_step m c t d0 d1 d2).1, ← (carried_step m c t d0 d1 d2).2]
    iapply (run_last c (grid0.coords t) _ _ _ _ _ _ _ _ _ _ _ _ h0 h1 _ _ _ _ _ Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexists _; iexact H0
    isplitl [H1]; · iexists _; iexact H1
    isplitl [H2]; · iexists _; iexact H2
    iexact H3
  · rw [Dat.leavesExact_idle (dats m 0 c) 3 t (idle_3 t h1) (noFlush_3 t h1)]
    by_cases h0 : isFirst (grid0.coords t)
    · have hz : t.val = 0 := (isFirst_iff t).mp h0
      rw [Phi_castSucc m c t, Phi_zero m c _ _ hz, PhiA_eq]
      have hc : carried m c t.val (Nat.le_of_lt t.isLt) = (k0_pay2 (F := F), k0_pay3) := by
        obtain ⟨n, hn⟩ := t; dsimp only at hz; subst hz; rfl
      iintro ⟨⟨⟨HS0, HS1⟩, Hg⟩, Ho, ⟨%d0, H0⟩, ⟨%d1, H1⟩, ⟨%d2, H2⟩, ⟨%d3, H3⟩⟩
      rw [← (carried_step m c t d0 d1 d2).1, ← (carried_step m c t d0 d1 d2).2, hc]
      iapply (run_first c (grid0.coords t) _ _ _ _ _ _ _ _ _ _ _ _ h0 h1 _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexists _; iexact H0
      isplitl [H1]; · iexists _; iexact H1
      isplitl [H2]; · iexists _; iexact H2
      iexists _; iexact H3
    · have hz : t.val ≠ 0 := fun h => h0 ((isFirst_iff t).mpr h)
      rw [Phi_castSucc m c t, Phi_pos m c _ _ hz]
      iintro ⟨⟨⟨HS0, HS1⟩, Hg⟩, Ho, ⟨%d0, H0⟩, ⟨%d1, H1⟩, ⟨%d2, H2⟩, ⟨%d3, H3⟩⟩
      rw [← (carried_step m c t d0 d1 d2).1, ← (carried_step m c t d0 d1 d2).2]
      iapply (run_mid c (grid0.coords t) _ _ _ _ _ _ _ _ _ _ _ _ h0 h1 _ _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexists _; iexact H0
      isplitl [H1]; · iexists _; iexact H1
      isplitl [H2]; · iexists _; iexact H2
      iexists _; iexact H3

theorem defs₀_row (t : Fin cfg0.N) :
    defs₀ (F := F) .tc cfg0.body (cfg0.bodyArgs t (cfg0.slots t)) = bodyAt0 t := by
  unfold defs₀; rw [Defs.onTc_tc]

/-- An input's buffer handed back is stated inside the array only. -/
theorem cut_0 (c : Dev nD) (t : Fin cfg0.N) : win0_0.cut (grid0.coords t) ((dats m 0 c).after 0 t) = iblk m c 0 t :=
  win0_0.cut_fill _ _ _
theorem cut_1 (c : Dev nD) (t : Fin cfg0.N) : win0_1.cut (grid0.coords t) ((dats m 0 c).after 1 t) = iblk m c 1 t :=
  win0_1.cut_fill _ _ _
theorem cut_2 (c : Dev nD) (t : Fin cfg0.N) : win0_2.cut (grid0.coords t) ((dats m 0 c).after 2 t) = iblk m c 2 t :=
  win0_2.cut_fill _ _ _

theorem leaves_eq_3 (c : Dev nD) (t : Fin cfg0.N) : ((dats m 0 c).leavesExact 3 t : sProp 𝕄) ⊢ (dats m 0 c).leaves 3 t :=
  (dats m 0 c).leaves_intro 3 t

theorem post_le (c : Dev nD) (t : Fin cfg0.N) : bodyPost m c t ⊢
    iprop((dats m 0 c).Φ t.succ ∗ (dats m 0 c).owesAt () t.succ
      ∗ (dats m 0 c).leaves 0 t ∗ (dats m 0 c).leaves 1 t ∗ (dats m 0 c).leaves 2 t ∗ (dats m 0 c).leaves 3 t) := by
  have e0 : ((dats m 0 c).leaves 0 t : sProp 𝕄) = iprop(∃ d, owns (c : Thread nD τ) (ms0 t) fullShare (win0_0.fill (grid0.coords t) d (iblk m c 0 t))) := by
    rw [← cut_0]; rfl
  have e1 : ((dats m 0 c).leaves 1 t : sProp 𝕄) = iprop(∃ d, owns (c : Thread nD τ) (ms1 t) fullShare (win0_1.fill (grid0.coords t) d (iblk m c 1 t))) := by
    rw [← cut_1]; rfl
  have e2 : ((dats m 0 c).leaves 2 t : sProp 𝕄) = iprop(∃ d, owns (c : Thread nD τ) (ms2 t) fullShare (win0_2.fill (grid0.coords t) d (iblk m c 2 t))) := by
    rw [← cut_2]; rfl
  rw [e0, e1, e2]
  exact sep_mono .rfl (sep_mono .rfl (sep_mono .rfl (sep_mono .rfl (sep_mono .rfl (leaves_eq_3 m c t)))))

/-- The library's body obligation at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => post_le m c t

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have hz : (Fin.last cfg0.N).val ≠ 0 := by rw [Fin.val_last]; have : cfg0.N = 31 := N_0; omega
  rw [show (dats m 0 c).Φ (Fin.last cfg0.N) = Phi m c (Fin.last cfg0.N).val (Nat.le_of_lt_succ (Fin.last cfg0.N).isLt) from rfl,
    Phi_pos m c _ _ hz, PhiA_eq]
  iintro ⟨⟨HS0, HS1⟩, Hg⟩
  isplitl [HS0 HS1]
  · isplitl [HS0]
    · iexists _; iexact HS0
    iexists _; iexact HS1
  iexact Hg

-- the statement below is the launch theorem's own conclusion, at this program
set_option backward.isDefEq.respectTransparency.types false in
/-- The run of the whole program: it ends with the arrays at what the library computes and the counters at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.Best.lean ====
/- What "the first column of the row's largest value" means, and how it grows: by one more column, as the reference's
   reduction does, and by a whole block of later columns, as the kernel does. -/
module

public import Idealize.ShloMosaic.PureOps.Ideal.Laws

@[expose] public section

noncomputable section

namespace Cert.Best

/-- `v` is the largest of the values `f k` over the columns `k` in `S`, and `i` the first column that has it; while all
    seen is −∞ this may still be the start, −∞ at column zero. -/
def IsBest (S : ℕ → Prop) (f : ℕ → EReal) (v : EReal) (i : BitVec 32) : Prop :=
  ∃ c, i = BitVec.ofNat 32 c ∧ c < 1000000 ∧ (S c ∧ v = f c ∨ c = 0 ∧ v = ⊥) ∧ ∀ k, S k → f k < v ∨ (f k = v ∧ c ≤ k)

variable {S T : ℕ → Prop} {f : ℕ → EReal} {v w : EReal} {i j : BitVec 32}

theorem IsBest.start : IsBest (fun _ => False) f ⊥ 0#32 := ⟨0, rfl, by norm_num, Or.inr ⟨rfl, rfl⟩, fun _ h => h.elim⟩

theorem IsBest.congr (h : IsBest S f v i) (e : ∀ k, S k ↔ T k) : IsBest T f v i := by
  rwa [← show S = T from funext fun k => propext (e k)]

private theorem value_le {c c' : ℕ} (hc : S c ∧ v = f c ∨ c = 0 ∧ v = ⊥) (hk : ∀ k, S k → f k < w ∨ (f k = w ∧ c' ≤ k)) : v ≤ w := by
  rcases hc with ⟨hs, rfl⟩ | ⟨_, rfl⟩
  · exact (hk c hs).elim le_of_lt fun h => le_of_eq h.1
  · exact bot_le

private theorem column_le (h0 : S 0) {c c' : ℕ} (hc : S c ∧ v = f c ∨ c = 0 ∧ v = ⊥)
    (hk : ∀ k, S k → f k < v ∨ (f k = v ∧ c' ≤ k)) : c' ≤ c := by
  rcases hc with ⟨hs, rfl⟩ | ⟨rfl, rfl⟩
  · exact (hk c hs).elim (fun h => absurd h (lt_irrefl _)) fun h => h.2
  · exact (hk 0 h0).elim (fun h => absurd h not_lt_bot) fun h => h.2

/-- Over columns that include the first there is one best. -/
theorem IsBest.unique (h0 : S 0) (h : IsBest S f v i) (h' : IsBest S f w j) : i = j := by
  obtain ⟨c, rfl, _, hc, hk⟩ := h
  obtain ⟨c', rfl, _, hc', hk'⟩ := h'
  obtain rfl : v = w := le_antisymm (value_le hc hk') (value_le hc' hk)
  rw [le_antisymm (column_le h0 hc' hk) (column_le h0 hc hk')]

/-- One more column that is not better. -/
theorem IsBest.keep (h : IsBest S f v i) (k : ℕ) (hk : f k < v ∨ (f k = v ∧ ∀ c, i = BitVec.ofNat 32 c → c < 1000000 → c ≤ k)) :
    IsBest (fun n => S n ∨ n = k) f v i := by
  obtain ⟨c, e, hn, hc, hs⟩ := h
  refine ⟨c, e, hn, hc.imp_left fun h => ⟨Or.inl h.1, h.2⟩, fun n => ?_⟩
  rintro (h | rfl)
  · exact hs n h
  · exact hk.imp_right fun h => ⟨h.1, h.2 c e hn⟩

/-- One more column that is better. -/
theorem IsBest.take (h : IsBest S f v i) (k : ℕ) (hn : k < 1000000)
    (hk : v < f k ∨ (f k = v ∧ ∀ c, i = BitVec.ofNat 32 c → c < 1000000 → k ≤ c)) :
    IsBest (fun n => S n ∨ n = k) f (f k) (BitVec.ofNat 32 k) := by
  obtain ⟨c, e, hc', hc, hs⟩ := h
  refine ⟨k, rfl, hn, Or.inl ⟨Or.inr rfl, rfl⟩, fun n => ?_⟩
  rintro (h | rfl)
  · rcases hk with hk | ⟨hk, hk'⟩
    · exact Or.inl ((hs n h).elim (fun h => h.trans hk) fun h => h.1 ▸ hk)
    · exact hk ▸ (hs n h).imp_right fun h => ⟨h.1, (hk' c e hc').trans h.2⟩
  · exact Or.inr ⟨rfl, le_rfl⟩

/-- A block of later columns: its largest value `w`, first at column `j`, is taken only if it is larger. -/
theorem IsBest.block (h : IsBest S f v i) (hST : ∀ a b, S a → T b → a ≤ b) (hw : ∀ k, T k → f k ≤ w)
    (hj : v < w → ∃ d, j = BitVec.ofNat 32 d ∧ d < 1000000 ∧ T d ∧ w = f d ∧ ∀ k, T k → f k = w → d ≤ k) :
    IsBest (fun n => S n ∨ T n) f (if v < w then w else v) (if v < w then j else i) := by
  obtain ⟨c, e, hn, hc, hs⟩ := h
  by_cases hv : v < w
  · rw [if_pos hv, if_pos hv]
    obtain ⟨d, rfl, hd, hT, hf, hfirst⟩ := hj hv
    refine ⟨d, rfl, hd, Or.inl ⟨Or.inr hT, hf⟩, fun n => ?_⟩
    rintro (h | h)
    · exact Or.inl ((hs n h).elim (fun h => h.trans hv) fun h => h.1 ▸ hv)
    · exact (lt_or_eq_of_le (hw n h)).imp_right fun h' => ⟨h', hfirst n h h'⟩
  · rw [if_neg hv, if_neg hv]
    refine ⟨c, e, hn, hc.imp_left fun h => ⟨Or.inl h.1, h.2⟩, fun n => ?_⟩
    rintro (h | h)
    · exact hs n h
    · refine (lt_or_eq_of_le ((hw n h).trans (not_lt.mp hv))).imp_right fun h' => ⟨h', ?_⟩
      rcases hc with ⟨h1, _⟩ | ⟨rfl, _⟩
      · exact hST c n h1 h
      · exact Nat.zero_le _

end Cert.Best

end
-- ==== Proof.KernelBest.lean ====
/- One block of the kernel at exact arithmetic: its row's largest masked score and the first column that has it, folded
   into the carried best. -/
module

public import proofs.«01_k».proof.Proof.Run
public import proofs.«01_k».proof.Proof.Best
public import Idealize.ShloMosaic.Lib.SortNet.Extract
public import Idealize.ShloMosaic.Lib.ValueLayoutCasts

@[expose] public section

set_option maxRecDepth 65536

noncomputable section

namespace Cert.KernelIdeal.Hand

open Idealize.ShloMosaic Idealize.ShloMosaic.TcCoe
open Idealize.ShloMosaic.Pipeline (Dat Cfg Window)
open Cert.KernelIdeal.Gen Cert.Best

/-- An index of a block that drops to a row lies in it. -/
theorem drop_row (i : S64x32768.Idx) (r : Fin 64) : reduces_S64x32768_S64.drop i = ValueIdx.ix1 r ↔ i 0 = r := by
  have e : (reduces_S64x32768_S64.drop i 0 : ℕ) = i 0 := Shape.Reduces.drop_apply_val_of_eq _ i 0 0
  constructor
  · intro h
    rw [h] at e
    exact Fin.ext e.symm
  · rintro rfl
    exact funext fun a => match a with | ⟨0, _⟩ => Fin.ext e

section Block
variable (p : FVec Ideal S64x32768 .f32) (r : Fin 64)

/-- The row's maximum. -/
def rowMax : EReal :=
  multiReduction .maximumf [1] S64 p 0xFF800000#32 reduces_S64x32768_S64 (.inl rfl) rfl (ValueIdx.ix1 r)

theorem rowMax_fold : rowMax p r = (Finset.univ.filter fun i => reduces_S64x32768_S64.drop i = ValueIdx.ix1 r).fold max ⊥ p := by
  refine (multiReduction_maximumf_eq_fold p _ reduces_S64x32768_S64 _ _ (ValueIdx.ix1 r)).trans ?_
  have hinit : (FloatOps.ofBits .f32 0xFF800000#32 : Ideal .f32) = ⊥ := by
    show Ideal.ofBits .f32 0xFF800000#32 = ⊥
    simp [Ideal.ofBits, Ideal.ieee]
  rw [hinit]
  rfl

theorem le_rowMax (k : Fin 32768) : p (ValueIdx.ix2 r k) ≤ rowMax p r := by
  rw [rowMax_fold]
  exact Finset.le_fold_max _ |>.mpr (Or.inr ⟨_, Finset.mem_filter.mpr ⟨Finset.mem_univ _, (drop_row _ r).mpr rfl⟩, le_rfl⟩)

theorem rowMax_mem (h : ⊥ < rowMax p r) : ∃ k, rowMax p r = p (ValueIdx.ix2 r k) := by
  have := (Finset.le_fold_max (rowMax p r)).mp (le_of_eq (rowMax_fold p r))
  rcases this with h' | ⟨i, hi, h'⟩
  · exact absurd h (not_lt.mpr h')
  · obtain rfl := (drop_row i r).mp (Finset.mem_filter.mp hi).2
    have e : i = ValueIdx.ix2 (i 0) (i 1) := funext fun a => match a with | ⟨0, _⟩ => rfl | ⟨1, _⟩ => rfl
    refine ⟨i 1, le_antisymm (h'.trans (le_of_eq (congrArg p e))) (le_rowMax p (i 0) (i 1))⟩

/-- The row's first column among those that have a given value, numbered from `b`. -/
def rowFirst (q : IVec S64x32768 32) : BitVec 32 :=
  multiReductionI .minsi [1] S64 q 2147483647#32 reduces_S64x32768_S64 rfl (ValueIdx.ix1 r)

theorem toInt_rowFirst (q : IVec S64x32768 32) : (rowFirst r q).toInt
    = (Finset.univ.filter fun i => reduces_S64x32768_S64.drop i = ValueIdx.ix1 r).fold min 2147483647 fun i => (q i).toInt := by
  refine (congrArg BitVec.toInt (multiReductionI_eq_fold _ q _ reduces_S64x32768_S64 _ (ValueIdx.ix1 r))).trans ?_
  exact (Finset.fold_hom (m := BitVec.toInt) fun x y => (SortNet.toInt_minsi x y)).symm

/-- The least word of a row is any word of it that is at most every other. -/
theorem rowFirst_eq (q : IVec S64x32768 32) (k : Fin 32768) (h : ∀ k', (q (ValueIdx.ix2 r k)).toInt ≤ (q (ValueIdx.ix2 r k')).toInt) :
    rowFirst r q = q (ValueIdx.ix2 r k) := by
  apply BitVec.eq_of_toInt_eq
  rw [toInt_rowFirst]
  apply le_antisymm
  · exact Finset.fold_min_le _ |>.mpr (Or.inr ⟨_, Finset.mem_filter.mpr ⟨Finset.mem_univ _, (drop_row _ r).mpr rfl⟩, le_rfl⟩)
  · refine Finset.le_fold_min _ |>.mpr ⟨?_, fun i hi => ?_⟩
    · have := BitVec.toInt_lt (x := q (ValueIdx.ix2 r k))
      omega
    · obtain rfl := (drop_row i r).mp (Finset.mem_filter.mp hi).2
      have e : i = ValueIdx.ix2 (i 0) (i 1) := funext fun a => match a with | ⟨0, _⟩ => rfl | ⟨1, _⟩ => rfl
      exact (h (i 1)).trans (le_of_eq (congrArg (fun i => (q i).toInt) e.symm))

/-- The columns that have the maximum numbered from `b`, the others far out: the least number is the first such column's. -/
theorem rowFirst_masked (b : ℕ) (hb : b < 1000000) (k : Fin 32768) (hk : rowMax p r = p (ValueIdx.ix2 r k))
    (hmin : ∀ k' : Fin 32768, rowMax p r = p (ValueIdx.ix2 r k') → k.val ≤ k'.val) :
    rowFirst r (fun i => if p i = rowMax p (i 0) then BitVec.ofNat 32 (b + (i 1).val) else 1073741824#32) = BitVec.ofNat 32 (b + k.val) := by
  have hword {n : ℕ} (hn : n < 2 ^ 31) : (BitVec.ofNat 32 n).toInt = (n : ℤ) := by
    rw [BitVec.toInt_eq_toNat_of_lt, BitVec.toNat_ofNat, Nat.mod_eq_of_lt (by omega)]
    rw [BitVec.toNat_ofNat]
    omega
  have hw (k' : Fin 32768) : (fun i : S64x32768.Idx => if p i = rowMax p (i 0) then BitVec.ofNat 32 (b + (i 1).val) else 1073741824#32) (ValueIdx.ix2 r k')
      = if p (ValueIdx.ix2 r k') = rowMax p r then BitVec.ofNat 32 (b + k'.val) else 1073741824#32 := rfl
  have hkk := k.isLt
  have hle (k' : Fin 32768) : (BitVec.ofNat 32 (b + k.val)).toInt
      ≤ BitVec.toInt (if p (ValueIdx.ix2 r k') = rowMax p r then BitVec.ofNat 32 (b + k'.val) else 1073741824#32) := by
    have hkk' := k'.isLt
    rw [hword (by omega)]
    by_cases h' : p (ValueIdx.ix2 r k') = rowMax p r
    · rw [if_pos h', hword (by omega)]
      have := hmin k' h'.symm
      omega
    · rw [if_neg h', hword (n := 1073741824) (by omega)]
      omega
  have hself := (hw k).trans (if_pos hk.symm)
  exact (rowFirst_eq r _ k fun k' => (le_of_eq (congrArg BitVec.toInt hself)).trans (hle k')).trans hself

end Block

section Step
variable (t : Fin cfg0.N) (x0 : Vec Ideal S64x32768 .f32) (x1 : Vec Ideal S1x32768 .f32) (x2 : Vec Ideal S64x32768 .f32) (r : Fin 64)

theorem if_cmp_oeq {α : Type} (a b : EReal) (x y : α) : (if Ideal.cmp .oeq a b = 1 then x else y) = if a = b then x else y := by
  unfold Ideal.cmp
  by_cases h : a = b <;> simp [h]

theorem if_cmp_ogt {α : Type} (a b : EReal) (x y : α) : (if Ideal.cmp .ogt a b = 1 then x else y) = if b < a then x else y := by
  unfold Ideal.cmp
  by_cases h : b < a <;> simp [h]

theorem select_ogt {s : Shape} {α : Type} (a b : FVec Ideal s .f32) (x y : s.Idx → α) (i : s.Idx) :
    select (cmpf .ogt a b) x y i = if b i < a i then x i else y i := if_cmp_ogt _ _ _ _

/-- A row vector stood up as a column. -/
theorem column_at {α : Type} (v : S64.Idx → α) (r : Fin 64) : shapeCast S64x1 v shapeCasts_S64_S64x1 (ValueIdx.ix2 r 0) = v (ValueIdx.ix1 r) :=
  ValueIdx.shapeCast_a_a1_apply (a := 64) v shapeCasts_S64_S64x1 r 0

/-- A column spread over a block. -/
theorem spread_at {α : Type} (v : S64x1.Idx → α) (i : S64x32768.Idx) :
    broadcastTo S64x32768 v broadcasts_S64x1_S64x32768 i = v (ValueIdx.ix2 (i 0) 0) :=
  congrArg v (funext fun a => match a with | ⟨0, _⟩ => rfl | ⟨1, _⟩ => rfl)

theorem pay6_at : k0_pay6 (grid0.coords t) x0 x1 x2 (ValueIdx.ix2 r 0) = rowMax (k0_pay5 (grid0.coords t) x0 x1 x2) r := by
  unfold k0_pay6
  exact column_at _ r

theorem pay7_at : k0_pay7 (grid0.coords t) x0 x1 x2 (ValueIdx.ix2 r 0)
    = rowFirst r fun i => if k0_pay5 (grid0.coords t) x0 x1 x2 i = rowMax (k0_pay5 (grid0.coords t) x0 x1 x2) (i 0)
        then BitVec.ofNat 32 (t.val * 32768 + (i 1).val) else 1073741824#32 := by
  unfold k0_pay7
  refine (column_at _ r).trans (congrArg (rowFirst r) (funext fun i => ?_))
  have e := (spread_at (k0_pay6 (grid0.coords t) x0 x1 x2) i).trans (pay6_at t x0 x1 x2 (i 0))
  refine (if_cmp_oeq _ _ _ _).trans (if_congr (by rw [e]) (pay4_apply t i) rfl)

theorem stV_at (bv : Vec Ideal S64x1 .f32) : stV (grid0.coords t) x0 x1 x2 bv (ValueIdx.ix2 r 0)
    = if bv (ValueIdx.ix2 r 0) < rowMax (k0_pay5 (grid0.coords t) x0 x1 x2) r then rowMax (k0_pay5 (grid0.coords t) x0 x1 x2) r
      else bv (ValueIdx.ix2 r 0) := by
  unfold stV k0_pay9 k0_pay8
  simp only [shapeCast_self]
  refine (select_ogt _ _ _ _ _).trans ?_
  rw [pay6_at]

theorem stI_at (bv : Vec Ideal S64x1 .f32) (bi : Vec Ideal S64x1 .i32) : stI (grid0.coords t) x0 x1 x2 bv bi (ValueIdx.ix2 r 0)
    = if bv (ValueIdx.ix2 r 0) < rowMax (k0_pay5 (grid0.coords t) x0 x1 x2) r then k0_pay7 (grid0.coords t) x0 x1 x2 (ValueIdx.ix2 r 0)
      else bi (ValueIdx.ix2 r 0) := by
  unfold stI k0_pay1 k0_pay8
  simp only [shapeCast_self]
  refine (select_ogt _ _ _ _ _).trans ?_
  rw [pay6_at]

/-- The columns a point's block stands for. -/
abbrev ofBlock (n : ℕ) : Prop := t.val * 32768 ≤ n ∧ n < (t.val + 1) * 32768 ∧ n < 1000000

/-- A point takes the carried best over its block. -/
theorem step_best {f : ℕ → EReal} {bv : Vec Ideal S64x1 .f32} {bi : Vec Ideal S64x1 .i32}
    (hin : ∀ k : Fin 32768, t.val * 32768 + k.val < 1000000 →
      f (t.val * 32768 + k.val) = k0_pay5 (grid0.coords t) x0 x1 x2 (ValueIdx.ix2 r k))
    (h : IsBest (fun n => n < t.val * 32768 ∧ n < 1000000) f (bv (ValueIdx.ix2 r 0)) (bi (ValueIdx.ix2 r 0))) :
    IsBest (fun n => n < (t.val + 1) * 32768 ∧ n < 1000000) f (stV (grid0.coords t) x0 x1 x2 bv (ValueIdx.ix2 r 0))
      (stI (grid0.coords t) x0 x1 x2 bv bi (ValueIdx.ix2 r 0)) := by
  have ht : t.val < 31 := Nat.lt_of_lt_of_eq t.isLt N_0
  have hb : t.val * 32768 < 1000000 := by omega
  rw [stV_at, stI_at]
  refine (h.block (T := ofBlock t) (fun a b ha hb => ha.1.le.trans hb.1) (fun n hn => ?_) fun hv => ?_).congr fun k => ?_
  · obtain ⟨h1, h2, h3⟩ := hn
    have e : t.val * 32768 + (n - t.val * 32768) = n := by omega
    have := hin ⟨n - t.val * 32768, by omega⟩ (by rw [e]; exact h3)
    rw [show f n = f (t.val * 32768 + (n - t.val * 32768)) by rw [e], this]
    exact le_rowMax _ r _
  · have hmem := rowMax_mem _ r (lt_of_le_of_lt bot_le hv)
    have hout : ∀ k : Fin 32768, rowMax (k0_pay5 (grid0.coords t) x0 x1 x2) r = k0_pay5 (grid0.coords t) x0 x1 x2 (ValueIdx.ix2 r k) →
        t.val * 32768 + k.val < 1000000 := fun k hk => by
      by_contra hc
      rw [pay5_apply, if_neg hc] at hk
      have hb : (Named.named (F := Ideal) κ "neg" (0xFF61B1E6#32 : BitVec 32) : Ideal .f32) = ⊥ := rfl
      rw [hk, hb] at hv
      exact not_lt_bot hv
    classical
    obtain ⟨k, hk, hmin⟩ := Nat.lt_wfRel.wf.has_min {n | ∃ k : Fin 32768, k.val = n ∧ rowMax (k0_pay5 (grid0.coords t) x0 x1 x2) r
      = k0_pay5 (grid0.coords t) x0 x1 x2 (ValueIdx.ix2 r k)} ⟨_, hmem.choose, rfl, hmem.choose_spec⟩
    obtain ⟨k, rfl, hk⟩ := hk
    have hlt := hout k hk
    have hin' : t.val * 32768 + k.val < (t.val + 1) * 32768 :=
      (Nat.add_lt_add_left k.isLt _).trans_eq (Nat.succ_mul _ _).symm
    have hfirst (k' : Fin 32768) (h' : rowMax (k0_pay5 (grid0.coords t) x0 x1 x2) r = k0_pay5 (grid0.coords t) x0 x1 x2 (ValueIdx.ix2 r k')) :
        k.val ≤ k'.val := Nat.le_of_not_lt (hmin k'.val ⟨k', rfl, h'⟩)
    refine ⟨t.val * 32768 + k.val, ?_, hlt, ⟨Nat.le_add_right _ _, hin', hlt⟩,
      hk.trans (hin k hlt).symm, fun n hn e => ?_⟩
    · rw [pay7_at]
      exact rowFirst_masked (k0_pay5 (grid0.coords t) x0 x1 x2) r (t.val * 32768) hb k hk hfirst
    · obtain ⟨h1, h2, h3⟩ := hn
      have e' : t.val * 32768 + (n - t.val * 32768) = n := by omega
      have := hin ⟨n - t.val * 32768, by omega⟩ (by rw [e']; exact h3)
      have h4 : k.val ≤ n - t.val * 32768 := not_lt.mp (hmin _ ⟨⟨n - t.val * 32768, by omega⟩, rfl, by rw [← this, ← e]; exact congrArg f e'.symm⟩)
      exact (Nat.add_le_add_left h4 _).trans (le_of_eq e')
  · show k < t.val * 32768 ∧ k < 1000000 ∨ ofBlock t k ↔ k < (t.val + 1) * 32768 ∧ k < 1000000
    unfold ofBlock
    omega

end Step

end Cert.KernelIdeal.Hand

end
-- ==== Proof.Threefry.lean ====
/- The counter-based generator both programs draw their random words with, as a function of words: twenty rounds on
   a pair of words, a key added after every four. -/
module

public import Idealize.ShloMosaic.Lib.Claim

@[expose] public section

namespace Cert.Threefry

open Idealize.ShloMosaic

/-- A word turned left by `l` bits, `r` the bits that come back from the right. -/
def turn (l r x : BitVec 32) : BitVec 32 := IntOp.ori (IntOp.shli .host x l) (IntOp.shrui .host x r)

/-- One round: the words added; the second word turned, and xored with the sum. -/
def round (l r : BitVec 32) (p : BitVec 32 × BitVec 32) : BitVec 32 × BitVec 32 :=
  (IntOp.addi p.1 p.2, IntOp.xori (turn l r p.2) (IntOp.addi p.1 p.2))

/-- The same round, the xor's operands in the other order. -/
def swapped (l r : BitVec 32) (p : BitVec 32 × BitVec 32) : BitVec 32 × BitVec 32 :=
  (IntOp.addi p.1 p.2, IntOp.xori (IntOp.addi p.1 p.2) (turn l r p.2))

theorem swapped_eq : swapped = round := by
  funext l r p
  exact congrArg (Prod.mk _) (BitVec.xor_comm _ _)

/-- The four rounds of the first, third and fifth group, and those of the second and fourth. -/
def roundsA (f : BitVec 32 → BitVec 32 → BitVec 32 × BitVec 32 → BitVec 32 × BitVec 32) (p : BitVec 32 × BitVec 32) :=
  f 6#32 26#32 (f 26#32 6#32 (f 15#32 17#32 (f 13#32 19#32 p)))
def roundsB (f : BitVec 32 → BitVec 32 → BitVec 32 × BitVec 32 → BitVec 32 × BitVec 32) (p : BitVec 32 × BitVec 32) :=
  f 24#32 8#32 (f 16#32 16#32 (f 29#32 3#32 (f 17#32 15#32 p)))

/-- A group's four rounds, and the keys added at its end. -/
def groupA (k k' : BitVec 32) (p : BitVec 32 × BitVec 32) : BitVec 32 × BitVec 32 :=
  (IntOp.addi (roundsA round p).1 k, IntOp.addi (roundsA round p).2 k')
def groupB (k k' : BitVec 32) (p : BitVec 32 × BitVec 32) : BitVec 32 × BitVec 32 :=
  (IntOp.addi (roundsB round p).1 k, IntOp.addi (roundsB round p).2 k')

/-- A group whose second key is added in two parts. -/
theorem groupA_parts (k k' c : BitVec 32) (p : BitVec 32 × BitVec 32) :
    (IntOp.addi (roundsA swapped p).1 k, IntOp.addi (IntOp.addi (roundsA swapped p).2 k') c) = groupA k (k' + c) p := by
  rw [swapped_eq]
  exact congrArg (Prod.mk _) (BitVec.add_assoc _ _ _)
theorem groupB_parts (k k' c : BitVec 32) (p : BitVec 32 × BitVec 32) :
    (IntOp.addi (roundsB swapped p).1 k, IntOp.addi (IntOp.addi (roundsB swapped p).2 k') c) = groupB k (k' + c) p := by
  rw [swapped_eq]
  exact congrArg (Prod.mk _) (BitVec.add_assoc _ _ _)

/-- The random word of element number `n`: the generator at key 0, 42 and counter 0, `n`. -/
def word (n : BitVec 32) : BitVec 32 :=
  let p := groupA 466689008#32 5#32 (groupB 42#32 466689012#32 (groupA 0#32 45#32
    (groupB 466689008#32 2#32 (groupA 42#32 466689009#32 (0#32, IntOp.addi n 42#32)))))
  IntOp.xori p.1 p.2

/-- The noise a random word gives: a number in [1, 2) from its upper bits, scaled to the open unit interval from
    the least value drawn, and the negated logarithm taken twice. -/
noncomputable def gumbel {F : FTy → Type} [FloatOps F] (w : BitVec 32) : F .f32 :=
  let f : F .f32 := FloatOps.subf (FloatOps.ofBits .f32 (IntOp.ori (IntOp.shrui .host w 9#32) 1065353216#32)) (FloatOps.ofBits .f32 0x3F800000#32)
  let lo : F .f32 := FloatOps.ofBits .f32 0x2EDBE6FF#32
  let u := FloatOps.maximumf lo (FloatOps.addf (FloatOps.mulf f (FloatOps.subf (FloatOps.ofBits .f32 0x3F800000#32) lo)) lo)
  FloatOps.hostNegf (FloatOps.hostUnary .log (FloatOps.hostNegf (FloatOps.hostUnary .log u)))

/-- The noise of the element in row `r` and column `c` of an array of rows of a million. -/
noncomputable def noise {F : FTy → Type} [FloatOps F] (r c : ℕ) : F .f32 := gumbel (word (BitVec.ofNat 32 (r * 1000000 + c)))

end Cert.Threefry
-- ==== Proof.KernelNoise.lean ====
/- The noise array as the kernel's host lines compute it. -/
module

public import proofs.«01_k».proof.Proof.Gen.KernelIdeal.Frame
public import proofs.«01_k».proof.Proof.Threefry
public import Idealize.ShloMosaic.Lib.StableHlo.ReadAt

@[expose] public section

set_option maxRecDepth 65536

noncomputable section

namespace Cert.KernelIdeal.Hand

open Idealize.ShloMosaic Idealize.ShloMosaic.TcCoe Idealize.ShloMosaic.StableHlo
open Idealize.SL Idealize.SL.Sem
open Cert.KernelIdeal.Gen Cert.Threefry

variable {F : FTy → Type} [FloatOps F] [Named F]

/-- The host operations from position `a` up to position `b`. -/
abbrev seg (a b : ℕ) : List (HloOp τ sig (Elt F)) := (hostOps0.take b).drop a

variable (W : Valuation τ sig (Elt F))

theorem group1 (j : S64000000.Idx) :
    ((after (seg 10 52) W (Proc.devRef .tc main_v36) j : BitVec 32), (after (seg 10 52) W (Proc.devRef .tc main_v38) j : BitVec 32))
      = groupA 42#32 466689009#32 ((W (Proc.devRef .tc main_v4) j : BitVec 32), (W (Proc.devRef .tc main_v6) j : BitVec 32)) := by
  after_reads_simp
  rfl

theorem group2 (j : S64000000.Idx) :
    ((after (seg 52 94) W (Proc.devRef .tc main_v68) j : BitVec 32), (after (seg 52 94) W (Proc.devRef .tc main_v70) j : BitVec 32))
      = groupB 466689008#32 2#32 ((W (Proc.devRef .tc main_v36) j : BitVec 32), (W (Proc.devRef .tc main_v38) j : BitVec 32)) := by
  after_reads_simp
  rfl

theorem group3 (j : S64000000.Idx) :
    ((after (seg 94 136) W (Proc.devRef .tc main_v100) j : BitVec 32), (after (seg 94 136) W (Proc.devRef .tc main_v102) j : BitVec 32))
      = groupA 0#32 45#32 ((W (Proc.devRef .tc main_v68) j : BitVec 32), (W (Proc.devRef .tc main_v70) j : BitVec 32)) := by
  after_reads_simp
  rfl

theorem group4 (j : S64000000.Idx) :
    ((after (seg 136 178) W (Proc.devRef .tc main_v132) j : BitVec 32), (after (seg 136 178) W (Proc.devRef .tc main_v134) j : BitVec 32))
      = groupB 42#32 466689012#32 ((W (Proc.devRef .tc main_v100) j : BitVec 32), (W (Proc.devRef .tc main_v102) j : BitVec 32)) := by
  after_reads_simp
  rfl

theorem group5 (j : S64000000.Idx) :
    ((after (seg 178 220) W (Proc.devRef .tc main_v164) j : BitVec 32), (after (seg 178 220) W (Proc.devRef .tc main_v166) j : BitVec 32))
      = groupA 466689008#32 5#32 ((W (Proc.devRef .tc main_v132) j : BitVec 32), (W (Proc.devRef .tc main_v134) j : BitVec 32)) := by
  after_reads_simp
  rfl

/-- The words the generator starts from at element `j`: its number, and a zero. -/
theorem start (j : S64000000.Idx) :
    ((after (seg 0 10) W (Proc.devRef .tc main_v4) j : BitVec 32), (after (seg 0 10) W (Proc.devRef .tc main_v6) j : BitVec 32))
      = (0#32, IntOp.addi (BitVec.ofNat 32 (j 0).val) 42#32) := by
  after_reads_simp
  rfl

/-- The line up to a position is the line up to an earlier one and the operations between. -/
theorem upto_seg (V : Valuation τ sig (Elt F)) (a b : ℕ) (h : a ≤ b) :
    upto hostOps0 V b = after (seg a b) (upto hostOps0 V a) := by
  unfold upto
  rw [show (hostOps0 (F := F)).take a = (hostOps0.take b).take a from by rw [List.take_take, Nat.min_eq_left h], ← after_append,
    List.take_append_drop]

/-- The two words make one. -/
theorem mix (j : S64000000.Idx) : (after (seg 220 221) W (Proc.devRef .tc main_v167) j : BitVec 32)
    = IntOp.xori (W (Proc.devRef .tc main_v164) j : BitVec 32) (W (Proc.devRef .tc main_v166) j : BitVec 32) := by
  after_reads_simp
  rfl

/-- The noise of each word. -/
theorem finish (i : S64x1000000.Idx) : (after (seg 221 247) W (Proc.devRef .tc main_v186) i : F .f32)
    = gumbel (shapeCast S64x1000000 (W (Proc.devRef .tc main_v167) : IVec S64000000 32) shapeCasts_S64000000_S64x1000000 i) := by
  after_reads_simp
  rfl

/-- The random words, one line of elements. -/
theorem words (j : S64000000.Idx) :
    (upto hostOps0 W 221 (Proc.devRef .tc main_v167) j : BitVec 32) = word (BitVec.ofNat 32 (j 0).val) := by
  have h := group5 (upto hostOps0 W 178) j
  rw [← upto_seg W 178 220 (by omega), upto_seg W 136 178 (by omega), group4, upto_seg W 94 136 (by omega), group3,
    upto_seg W 52 94 (by omega), group2, upto_seg W 10 52 (by omega), group1, upto_seg W 0 10 (by omega), start] at h
  have e : (upto hostOps0 W 221 (Proc.devRef .tc main_v167) j : BitVec 32)
      = IntOp.xori (upto hostOps0 W 220 (Proc.devRef .tc main_v164) j : BitVec 32) (upto hostOps0 W 220 (Proc.devRef .tc main_v166) j : BitVec 32) := by
    rw [upto_seg W 220 221 (by omega), mix]
  rw [e]
  unfold word
  rw [← h]

/-- An array of rows of a million, laid out in one line. -/
theorem line_index (h : S64000000.ShapeCasts S64x1000000) (x : IVec S64000000 32) (f : BitVec 32 → BitVec 32)
    (hx : ∀ j : S64000000.Idx, x j = f (BitVec.ofNat 32 (j 0).val)) (i : S64x1000000.Idx) :
    shapeCast S64x1000000 x h i = f (BitVec.ofNat 32 ((i 0).val * 1000000 + (i 1).val)) := by
  pointwise
  rw [hx]
  rfl

theorem upto_all : upto hostOps0 W 247 = after hostOps0 W := by
  unfold upto
  rw [List.take_of_length_le (by exact le_of_eq rfl)]

/-- The noise array. -/
theorem noise_at (i : S64x1000000.Idx) :
    (after hostOps0 W (Proc.devRef .tc main_v186) i : F .f32) = noise (i 0).val (i 1).val := by
  rw [show (after hostOps0 W : Valuation τ sig (Elt F)) = after (seg 221 247) (upto hostOps0 W 221) from
    (upto_all W).symm.trans (upto_seg W 221 247 (by omega)), finish,
    line_index _ _ word (words W) i]
  rfl

/-- The mask row. -/
theorem mask_at (i : S1x1000000.Idx) :
    (after hostOps0 W (Proc.devRef .tc main_v0) i : F .f32) = (W (Proc.devRef .tc main_arg1) : Vec F S1000000 .f32) (ValueIdx.ix1 (i 1)) := by
  after_reads_simp
  pointwise
  rfl

end Cert.KernelIdeal.Hand

end
-- ==== Proof.KernelBlocks.lean ====
/- The blocks the kernel reads at a point, and the scores they make. -/
module

public import proofs.«01_k».proof.Proof.KernelBest
public import proofs.«01_k».proof.Proof.KernelNoise
public import Idealize.ShloMosaic.Lib.Pipeline.ValueKit

@[expose] public section

set_option maxRecDepth 65536

noncomputable section

namespace Cert.KernelIdeal.Hand

open Idealize.ShloMosaic Idealize.ShloMosaic.TcCoe Idealize.ShloMosaic.StableHlo
open Idealize.SL Idealize.SL.Sem
open Cert.KernelIdeal.Gen Cert.Threefry Cert.Best

variable (m : (ℓ : Loc nD τ sig) → Buf (Elt Ideal) ℓ) (c : Dev nD) (t : Fin cfg0.N) (r : Fin 64) (k : Fin 32768)

/-- The argument arrays as launched. -/
abbrev arg0 : FVec Ideal S64x1000000 .f32 := m ((c.tc : Thread nD τ).loc main_arg0)
abbrev arg1 : FVec Ideal S1000000 .f32 := m ((c.tc : Thread nD τ).loc main_arg1)

theorem index0 : ∀ t, win0_0.index t = ![0, (grid0.coords t 0).val] := by decide +kernel
theorem index1 : ∀ t, win0_1.index t = ![0, (grid0.coords t 0).val] := by decide +kernel
theorem index2 : ∀ t, win0_2.index t = ![0, (grid0.coords t 0).val] := by decide +kernel

/-- A block reads its array where the window places it. -/
theorem read0 (X : Vec Ideal S64x1000000 .f32) (d : Vec Ideal S64x32768 .f32) (h : t.val * 32768 + k.val < 1000000) :
    win0_0.fill (grid0.coords t) d ((win0_0.blk t).view.read (Elt Ideal) X) (ValueIdx.ix2 r k)
      = X (ValueIdx.ix2 r ⟨t.val * 32768 + k.val, h⟩) := by
  unfold Pipeline.Window.fill
  rw [dif_pos (moved0 t (ValueIdx.ix2 r k) h)]
  have e := coord_val t
  blk_ext [index0]
  rw [e]

theorem read1 (X : Vec Ideal S1x1000000 .f32) (d : Vec Ideal S1x32768 .f32) (h : t.val * 32768 + k.val < 1000000) :
    win0_1.fill (grid0.coords t) d ((win0_1.blk t).view.read (Elt Ideal) X) (row0 (ValueIdx.ix2 r k))
      = X (ValueIdx.ix2 0 ⟨t.val * 32768 + k.val, h⟩) := by
  unfold Pipeline.Window.fill
  rw [dif_pos (moved1 t (row0 (ValueIdx.ix2 r k)) h)]
  have e := coord_val t
  blk_ext [index1]
  rw [e]

theorem read2 (X : Vec Ideal S64x1000000 .f32) (d : Vec Ideal S64x32768 .f32) (h : t.val * 32768 + k.val < 1000000) :
    win0_2.fill (grid0.coords t) d ((win0_2.blk t).view.read (Elt Ideal) X) (ValueIdx.ix2 r k)
      = X (ValueIdx.ix2 r ⟨t.val * 32768 + k.val, h⟩) := by
  unfold Pipeline.Window.fill
  rw [dif_pos (moved2 t (ValueIdx.ix2 r k) h)]
  have e := coord_val t
  blk_ext [index2]
  rw [e]

theorem xb_at (h : t.val * 32768 + k.val < 1000000) :
    xb m c t (ValueIdx.ix2 r k) = arg0 m c (ValueIdx.ix2 r ⟨t.val * 32768 + k.val, h⟩) :=
  (read0 t r k (V m c main_arg0) _ h).trans (congrFun (V_main_arg0 m c) _)

theorem mb_at (h : t.val * 32768 + k.val < 1000000) :
    mb m c t (row0 (ValueIdx.ix2 r k)) = arg1 m c (ValueIdx.ix1 ⟨t.val * 32768 + k.val, h⟩) :=
  (read1 t r k (V m c main_v0) _ h).trans (mask_at (fun b => m (c, b)) (ValueIdx.ix2 0 ⟨t.val * 32768 + k.val, h⟩))

theorem gb_at (h : t.val * 32768 + k.val < 1000000) :
    gb m c t (ValueIdx.ix2 r k) = noise (F := Ideal) r.val (t.val * 32768 + k.val) :=
  (read2 t r k (V m c main_v186) _ h).trans (noise_at (fun b => m (c, b)) (ValueIdx.ix2 r ⟨t.val * 32768 + k.val, h⟩))

/-- The score of row `r` at a column. -/
def score (n : ℕ) : EReal :=
  if h : n < 1000000 then
    arg0 m c (ValueIdx.ix2 r ⟨n, h⟩) + arg1 m c (ValueIdx.ix1 ⟨n, h⟩) + noise (F := Ideal) r.val n
  else ⊥

theorem score_at (h : t.val * 32768 + k.val < 1000000) :
    score m c r (t.val * 32768 + k.val) = k0_pay5 (grid0.coords t) (xb m c t) (mb m c t) (gb m c t) (ValueIdx.ix2 r k) := by
  rw [pay5_apply, if_pos h, xb_at m c t r k h, mb_at m c t r k h, gb_at m c t r k h, score, dif_pos h]
  rfl

theorem carried_succ (n : ℕ) (h : n + 1 ≤ cfg0.N) : carried m c (n + 1) h
    = (stV (grid0.coords ⟨n, h⟩) (xb m c ⟨n, h⟩) (mb m c ⟨n, h⟩) (gb m c ⟨n, h⟩) (carried m c n (Nat.le_of_succ_le h)).1,
       stI (grid0.coords ⟨n, h⟩) (xb m c ⟨n, h⟩) (mb m c ⟨n, h⟩) (gb m c ⟨n, h⟩) (carried m c n (Nat.le_of_succ_le h)).1
         (carried m c n (Nat.le_of_succ_le h)).2) := by rw [carried]

end Cert.KernelIdeal.Hand

end
-- ==== Proof.KernelValue.lean ====
/- The positions the kernel ends with: the carried columns after each point, the result. -/
module

public import proofs.«01_k».proof.Proof.KernelBlocks
public import Idealize.ShloMosaic.Lib.Pipeline.ValueKit

@[expose] public section

set_option maxRecDepth 65536

noncomputable section

namespace Cert.KernelIdeal.Hand

open Idealize.ShloMosaic Idealize.ShloMosaic.TcCoe Idealize.ShloMosaic.StableHlo
open Idealize.SL Idealize.SL.Sem
open Cert.KernelIdeal.Gen Cert.Threefry Cert.Best

variable (m : (ℓ : Loc nD τ sig) → Buf (Elt Ideal) ℓ) (c : Dev nD) (r : Fin 64)

/-- After `n` points the carried columns are the best of the first `n` blocks. -/
theorem carried_best (n : ℕ) (h : n ≤ cfg0.N) : IsBest (fun k => k < n * 32768 ∧ k < 1000000) (score m c r)
    ((carried m c n h).1 (ValueIdx.ix2 r 0)) ((carried m c n h).2 (ValueIdx.ix2 r 0)) := by
  induction n with
  | zero =>
    have e : (carried m c 0 h).1 (ValueIdx.ix2 r 0) = (⊥ : EReal) := rfl
    have e' : (carried m c 0 h).2 (ValueIdx.ix2 r 0) = 0#32 := rfl
    rw [e, e']
    exact IsBest.start.congr fun k => by simp
  | succ n ih =>
    have hs := step_best ⟨n, h⟩ (xb m c ⟨n, h⟩) (mb m c ⟨n, h⟩) (gb m c ⟨n, h⟩) r (f := score m c r)
      (fun k hk => score_at m c ⟨n, h⟩ r k hk) (ih (Nat.le_of_succ_le h))
    rw [carried_succ]
    dsimp only at hs ⊢
    exact hs

/-- The last point. -/
def lastPoint : Fin cfg0.N := ⟨30, by rw [show cfg0.N = 31 from N_0]; decide⟩

/-- The array the kernel leaves holds the positions carried out of the last point. -/
theorem result_eq : (dats m 0 c).arrAt 3 (cfgs 0).N = (carried m c cfg0.N le_rfl).2 := by
  have e (n : ℕ) (h : n ≤ cfg0.N) (hn : n = cfg0.N) : carried m c n h = carried m c cfg0.N le_rfl := by subst hn; rfl
  refine (dats m 0 c).arrAt_eq_of_after_last 3 lastPoint (by decide +kernel) _ fun j => ?_
  rw [after_3]
  blk_simp
  rw [e (lastPoint.val + 1) _ N_0.symm]
  rfl

end Cert.KernelIdeal.Hand

end
-- ==== Proof.RefRun.lean ====
/- The reference's run. It has no kernel: its functions are straight lines of host operations, read off the printed
   program here and joined into one line. -/
module

public import proofs.«01_k».proof.Proof.Gen.ReferenceIdeal
public import Idealize.ShloMosaic.Lib.StableHlo.RunHlo
public import Idealize.ShloMosaic.Lib.StableHlo.ReadAt
public import Idealize.ShloMosaic.Lib.Quiescent
public import Idealize.ShloMosaic.Lib.Claim

@[expose] public section

set_option maxRecDepth 65536

noncomputable section

namespace Cert.ReferenceIdeal.Hand

open Idealize.ShloMosaic Idealize.ShloMosaic.TcCoe Idealize.ShloMosaic.StableHlo
open Idealize.SL Idealize.SL.Sem
open Cert.ReferenceIdeal.Gen

variable {F : FTy → Type} [FloatOps F]

/-- Programs over the reference's own labels. -/
abbrev P (F : FTy → Type) [FloatOps F] :=
  Prog (TpuEff nD τ sig (Elt F) (Pipeline.Sig Λ₀ (Fin 0) fun p => (pcfgs (F := F) p).Adm) .tc) PUnit

/-- A line of operations together with the proof that a program runs exactly it. -/
abbrev Line (p : P F) := {ops : List (HloOp τ sig (Elt F)) // IsSeq p ops}

theorem single (op : HloOp τ sig (Elt F)) : IsSeq (hlo rfl op fun _ => .ret (⟨⟩ : PUnit) : P F) [op] := rfl

theorem append {p q : P F} {l r : List (HloOp τ sig (Elt F))} (hp : IsSeq p l) (hq : IsSeq q r) :
    IsSeq (p >>= fun _ => q) (l ++ r) := by
  unfold IsSeq at hp hq ⊢; rw [hp, hq, seq_append]

section Threefry
variable (a b : TRef sig ⟨S_, .i32⟩) (x y : TRef sig ⟨S64x1000000, .i32⟩) (φ : fn_threefry2x32.Bufs)

def line0 : Line (F := F) (fn_threefry2x32.body_part0 a b x y φ) := by
  apply Subtype.mk
  unfold fn_threefry2x32.body_part0
  repeat (first | with_reducible exact single _ | with_reducible apply IsSeq.cons)

def line1 : Line (F := F) (fn_threefry2x32.body_part1 a b x y φ) := by
  apply Subtype.mk
  unfold fn_threefry2x32.body_part1
  repeat (first | with_reducible exact single _ | with_reducible apply IsSeq.cons)

def line2 : Line (F := F) (fn_threefry2x32.body_part2 a b x y φ) := by
  apply Subtype.mk
  unfold fn_threefry2x32.body_part2
  repeat (first | with_reducible exact single _ | with_reducible apply IsSeq.cons)

def line3 : Line (F := F) (fn_threefry2x32.body_part3 a b x y φ) := by
  apply Subtype.mk
  unfold fn_threefry2x32.body_part3
  repeat (first | with_reducible exact IsSeq.nil | with_reducible apply IsSeq.cons)

def threefry : Line (F := F) (fn_threefry2x32.body a b x y φ) :=
  ⟨_, append (line0 a b x y φ).2 (append (line1 a b x y φ).2 (append (line2 a b x y φ).2 (line3 a b x y φ).2))⟩

end Threefry

def uniform (a : TRef sig ⟨S2, .i32⟩) (lo hi : TRef sig ⟨S_, .f32⟩) (φ : fn_uniform.Bufs) :
    Line (F := F) (fn_uniform.body a lo hi φ) := by
  apply Subtype.mk
  unfold fn_uniform.body
  repeat (first | with_reducible exact IsSeq.nil | with_reducible apply IsSeq.cons | with_reducible apply append (threefry _ _ _ _ _).2)

def argmax (a : TRef sig ⟨S64x1000000, .f32⟩) (φ : fn_argmax.Bufs) : Line (F := F) (fn_argmax.body a φ) := by
  apply Subtype.mk
  unfold fn_argmax.body
  repeat (first | with_reducible exact IsSeq.nil | with_reducible apply IsSeq.cons)

def mainLine : {ops : List (HloOp τ sig (Elt F)) // ∀ d, IsSeq (main (F := F) d) ops} := by
  apply Subtype.mk
  intro d
  unfold main
  repeat (first | with_reducible exact IsSeq.nil | with_reducible apply IsSeq.cons | with_reducible apply append (uniform _ _ _ _).2 | with_reducible apply append (argmax _ _).2)

/-- The reference's operations, in order. -/
def ops : List (HloOp τ sig (Elt F)) := (mainLine (F := F)).1

theorem ops_sub : (ops (F := F)).Forall fun op => op.bufs ⊆ tcRefs τ sig := by
  simp [ops, mainLine, uniform, argmax, threefry, line0, line1, line2, line3]

theorem ops_fresh : ∀ op ∈ (ops (F := F)), op.fresh = ∅ := by
  refine List.forall_iff_forall_mem.mp ?_
  repeat (first | exact trivial | exact rfl | refine ⟨rfl, ?_⟩)

variable (m : (ℓ : Loc nD τ sig) → Buf (Elt F) ℓ) (ρ : Dev nD → PrngReg)

theorem run : θ_run (defs (F := F)) (onTc (τ := τ) (main (F := F))) ⟨m, fun _ => 0, ρ⟩ fun r =>
    ∀ (d : Dev nD) (b : Ref sig .tc), r.2.mem ((d.tc : Thread nD τ).loc b) = after ops (launchContents m d) (Proc.devRef .tc b) :=
  run_hlo _ _ (ops := ops) mainLine.2 (by decide) (by decide) ops_sub ops_fresh _ _

theorem kept0 (V : Valuation τ sig (Elt F)) :
    after ops V (no_index (Proc.devRef .tc main_arg0)) = V (Proc.devRef .tc main_arg0) := by
  after_reads_simp

theorem kept1 (V : Valuation τ sig (Elt F)) :
    after ops V (no_index (Proc.devRef .tc main_arg1)) = V (Proc.devRef .tc main_arg1) := by
  after_reads_simp

/-- The arguments end unchanged and the counters at zero. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h => ⟨fun c => ⟨(h c main_arg0).trans (kept0 _), (h c main_arg1).trans (kept1 _)⟩,
    sem_eq_zero_of_no_sems rfl _⟩

end Cert.ReferenceIdeal.Hand

end
-- ==== Proof.RefNoise.lean ====
/- The noise array as the reference's host lines compute it. -/
module

public import proofs.«01_k».proof.Proof.RefRun
public import proofs.«01_k».proof.Proof.Threefry
public import Idealize.ShloMosaic.Lib.Pipeline.Frame

@[expose] public section

set_option maxRecDepth 65536

noncomputable section

namespace Cert.ReferenceIdeal.Hand

open Idealize.ShloMosaic Idealize.ShloMosaic.TcCoe Idealize.ShloMosaic.StableHlo
open Idealize.SL Idealize.SL.Sem
open Cert.ReferenceIdeal.Gen Cert.Threefry

variable {F : FTy → Type} [FloatOps F]

/-- The host operations from position `a` up to position `b`. -/
abbrev seg (a b : ℕ) : List (HloOp τ sig (Elt F)) := (ops.take b).drop a

variable (W : Valuation τ sig (Elt F))

/-- The line up to a position is the line up to an earlier one and the operations between. -/
theorem upto_seg (a b : ℕ) (h : a ≤ b) : upto ops W b = after (seg a b) (upto ops W a) := by
  unfold upto
  rw [show (ops (F := F)).take a = (ops.take b).take a from by rw [List.take_take, Nat.min_eq_left h], ← after_append,
    List.take_append_drop]

theorem upto_all : upto ops W 291 = after ops W := by
  unfold upto
  rw [List.take_of_length_le (by exact le_of_eq rfl)]

/-- The two words of the key. -/
theorem pair0 : (after (seg 0 18) W (Proc.devRef .tc main_v11) (ValueIdx.ix1 0) : BitVec 32) = 0#32 := by
  after_reads_simp
  rfl

theorem pair1 : (after (seg 0 18) W (Proc.devRef .tc main_v11) (ValueIdx.ix1 1) : BitVec 32) = 42#32 := by
  after_reads_simp
  pointwise
  rfl

theorem first_word (j : S_.Idx) : (after (seg 18 40) W (Proc.devRef .tc main_call0_v5) j : BitVec 32)
    = (W (Proc.devRef .tc main_v11) (ValueIdx.ix1 0) : BitVec 32) := by
  after_reads_simp
  pointwise
  simp -implicitDefEqProofs only [StableHlo.TRef.toBuf, StableHlo.TRef.ofBuf, cast_cast, cast_eq]
  exact congrArg (W (Proc.devRef .tc main_v11)) (funext fun a => match a with | ⟨0, _⟩ => rfl)

theorem second_word (j : S_.Idx) : (after (seg 18 40) W (Proc.devRef .tc main_call0_v7) j : BitVec 32)
    = (W (Proc.devRef .tc main_v11) (ValueIdx.ix1 1) : BitVec 32) := by
  after_reads_simp
  pointwise
  simp -implicitDefEqProofs only [StableHlo.TRef.toBuf, StableHlo.TRef.ofBuf, cast_cast, cast_eq]
  exact congrArg (W (Proc.devRef .tc main_v11)) (funext fun a => match a with | ⟨0, _⟩ => rfl)

/-- The element's number, and its upper half, which is zero. -/
theorem low_word (j : S64x1000000.Idx) : (after (seg 18 40) W (Proc.devRef .tc main_call0_v17) j : BitVec 32)
    = BitVec.ofNat 32 ((j 0).val * 1000000 + (j 1).val) := by
  after_reads_simp
  simp only [TRef.ofBuf_toBuf]
  simp -implicitDefEqProofs only [StableHlo.TRef.toBuf, StableHlo.TRef.ofBuf, cast_cast, cast_eq]
  show BitVec.setWidth 32 (1000000#64 * BitVec.ofNat 64 (j 0).val + 1#64 * BitVec.ofNat 64 (j 1).val) = _
  have h0 : (j 0).val < 64 := (j 0).isLt
  have h1 : (j 1).val < 1000000 := (j 1).isLt
  apply BitVec.eq_of_toNat_eq
  simp only [BitVec.toNat_setWidth, BitVec.toNat_add, BitVec.toNat_mul, BitVec.toNat_ofNat]
  omega

theorem high_word (j : S64x1000000.Idx) : (after (seg 18 40) W (Proc.devRef .tc main_call0_v18) j : BitVec 32) = 0#32 := by
  after_reads_simp
  simp only [TRef.ofBuf_toBuf]
  simp -implicitDefEqProofs only [StableHlo.TRef.toBuf, StableHlo.TRef.ofBuf, cast_cast, cast_eq]
  show BitVec.setWidth 32 ((1000000#64 * BitVec.ofNat 64 (j 0).val + 1#64 * BitVec.ofNat 64 (j 1).val) >>> 32#64) = _
  have h0 : (j 0).val < 64 := (j 0).isLt
  have h1 : (j 1).val < 1000000 := (j 1).isLt
  have e : (1000000#64 * BitVec.ofNat 64 (j 0).val + 1#64 * BitVec.ofNat 64 (j 1).val).toNat = (j 0).val * 1000000 + (j 1).val := by
    simp only [BitVec.toNat_add, BitVec.toNat_mul, BitVec.toNat_ofNat]
    omega
  apply BitVec.eq_of_toNat_eq
  rw [BitVec.toNat_setWidth, BitVec.ushiftRight_eq', BitVec.toNat_ushiftRight, e, Nat.shiftRight_eq_div_pow]
  rw [show ((j 0).val * 1000000 + (j 1).val) / 2 ^ (32#64).toNat = 0 from Nat.div_eq_of_lt (by show _ < 4294967296; omega)]
  rfl
/-- The three key words hold their values. -/
structure Keys : Prop where
  zero : ∀ j, (W (Proc.devRef .tc main_call0_v5) j : BitVec 32) = 0#32
  key : ∀ j, (W (Proc.devRef .tc main_call0_v7) j : BitVec 32) = 42#32
  mixed : ∀ j, (W (Proc.devRef .tc main_call0_call0_v1) j : BitVec 32) = 466689008#32

/-- A key word spread over the array. -/
abbrev spread (x : IVec S_ 32) : IVec S64x1000000 32 := broadcastInDim S64x1000000 ![] bcast_S_S64x1000000 x

theorem spread_at {x : IVec S_ 32} {k : BitVec 32} (hx : ∀ j, x j = k) (j : S64x1000000.Idx) : spread x j = k := hx _

/-- The five groups. -/
theorem group1 (hW : Keys W) (j : S64x1000000.Idx) :
    ((after (seg 47 90) W (Proc.devRef .tc main_call0_call0_v35) j : BitVec 32), (after (seg 47 90) W (Proc.devRef .tc main_call0_call0_v39) j : BitVec 32))
      = groupA 42#32 466689009#32 ((W (Proc.devRef .tc main_call0_call0_v3) j : BitVec 32), (W (Proc.devRef .tc main_call0_call0_v5) j : BitVec 32)) := by
  refine Eq.trans ?_ ((groupA_parts (spread (W (Proc.devRef .tc main_call0_v7)) j) (spread (W (Proc.devRef .tc main_call0_call0_v1)) j) 1#32
    ((W (Proc.devRef .tc main_call0_call0_v3) j : BitVec 32), (W (Proc.devRef .tc main_call0_call0_v5) j : BitVec 32))).trans ?_)
  · after_reads_simp
    rfl
  · rw [spread_at hW.key, spread_at hW.mixed]
    rfl

theorem group2 (hW : Keys W) (j : S64x1000000.Idx) :
    ((after (seg 90 133) W (Proc.devRef .tc main_call0_call0_v69) j : BitVec 32), (after (seg 90 133) W (Proc.devRef .tc main_call0_call0_v73) j : BitVec 32))
      = groupB 466689008#32 2#32 ((W (Proc.devRef .tc main_call0_call0_v35) j : BitVec 32), (W (Proc.devRef .tc main_call0_call0_v39) j : BitVec 32)) := by
  refine Eq.trans ?_ ((groupB_parts (spread (W (Proc.devRef .tc main_call0_call0_v1)) j) (spread (W (Proc.devRef .tc main_call0_v5)) j) 2#32
    ((W (Proc.devRef .tc main_call0_call0_v35) j : BitVec 32), (W (Proc.devRef .tc main_call0_call0_v39) j : BitVec 32))).trans ?_)
  · after_reads_simp
    rfl
  · rw [spread_at hW.mixed, spread_at hW.zero]
    rfl

theorem group3 (hW : Keys W) (j : S64x1000000.Idx) :
    ((after (seg 133 176) W (Proc.devRef .tc main_call0_call0_v103) j : BitVec 32), (after (seg 133 176) W (Proc.devRef .tc main_call0_call0_v107) j : BitVec 32))
      = groupA 0#32 45#32 ((W (Proc.devRef .tc main_call0_call0_v69) j : BitVec 32), (W (Proc.devRef .tc main_call0_call0_v73) j : BitVec 32)) := by
  refine Eq.trans ?_ ((groupA_parts (spread (W (Proc.devRef .tc main_call0_v5)) j) (spread (W (Proc.devRef .tc main_call0_v7)) j) 3#32
    ((W (Proc.devRef .tc main_call0_call0_v69) j : BitVec 32), (W (Proc.devRef .tc main_call0_call0_v73) j : BitVec 32))).trans ?_)
  · after_reads_simp
    rfl
  · rw [spread_at hW.zero, spread_at hW.key]
    rfl

theorem group4 (hW : Keys W) (j : S64x1000000.Idx) :
    ((after (seg 176 219) W (Proc.devRef .tc main_call0_call0_v137) j : BitVec 32), (after (seg 176 219) W (Proc.devRef .tc main_call0_call0_v141) j : BitVec 32))
      = groupB 42#32 466689012#32 ((W (Proc.devRef .tc main_call0_call0_v103) j : BitVec 32), (W (Proc.devRef .tc main_call0_call0_v107) j : BitVec 32)) := by
  refine Eq.trans ?_ ((groupB_parts (spread (W (Proc.devRef .tc main_call0_v7)) j) (spread (W (Proc.devRef .tc main_call0_call0_v1)) j) 4#32
    ((W (Proc.devRef .tc main_call0_call0_v103) j : BitVec 32), (W (Proc.devRef .tc main_call0_call0_v107) j : BitVec 32))).trans ?_)
  · after_reads_simp
    rfl
  · rw [spread_at hW.key, spread_at hW.mixed]
    rfl

theorem group5 (hW : Keys W) (j : S64x1000000.Idx) :
    ((after (seg 219 262) W (Proc.devRef .tc main_call0_v19_0) j : BitVec 32), (after (seg 219 262) W (Proc.devRef .tc main_call0_v19_1) j : BitVec 32))
      = groupA 466689008#32 5#32 ((W (Proc.devRef .tc main_call0_call0_v137) j : BitVec 32), (W (Proc.devRef .tc main_call0_call0_v141) j : BitVec 32)) := by
  refine Eq.trans ?_ ((groupA_parts (spread (W (Proc.devRef .tc main_call0_call0_v1)) j) (spread (W (Proc.devRef .tc main_call0_v5)) j) 5#32
    ((W (Proc.devRef .tc main_call0_call0_v137) j : BitVec 32), (W (Proc.devRef .tc main_call0_call0_v141) j : BitVec 32))).trans ?_)
  · after_reads_simp
    rfl
  · rw [spread_at hW.mixed, spread_at hW.zero]
    rfl

theorem keys_start (h0 : ∀ j, (W (Proc.devRef .tc main_call0_v5) j : BitVec 32) = 0#32)
    (h1 : ∀ j, (W (Proc.devRef .tc main_call0_v7) j : BitVec 32) = 42#32) : Keys (after (seg 40 47) W) := by
  refine ⟨fun j => ?_, fun j => ?_, fun j => ?_⟩ <;> after_reads_simp
  · exact h0 j
  · exact h1 j
  · simp only [TRef.ofBuf_toBuf]
    simp -implicitDefEqProofs only [StableHlo.TRef.toBuf, StableHlo.TRef.ofBuf, cast_cast, cast_eq]
    exact (congrArg₂ (fun a b : BitVec 32 => IntOp.xori (IntOp.xori a b) 466688986#32) (h0 j) (h1 j)).trans rfl

theorem keys_on (hW : Keys W) : Keys (after (seg 47 90) W) ∧ Keys (after (seg 90 133) W) ∧ Keys (after (seg 133 176) W)
    ∧ Keys (after (seg 176 219) W) := by
  refine ⟨⟨fun j => ?_, fun j => ?_, fun j => ?_⟩, ⟨fun j => ?_, fun j => ?_, fun j => ?_⟩, ⟨fun j => ?_, fun j => ?_, fun j => ?_⟩,
    ⟨fun j => ?_, fun j => ?_, fun j => ?_⟩⟩ <;> after_reads_simp
  all_goals first | exact hW.zero j | exact hW.key j | exact hW.mixed j

theorem start (h0 : ∀ j, (W (Proc.devRef .tc main_call0_v5) j : BitVec 32) = 0#32)
    (h1 : ∀ j, (W (Proc.devRef .tc main_call0_v7) j : BitVec 32) = 42#32) (j : S64x1000000.Idx) :
    ((after (seg 40 47) W (Proc.devRef .tc main_call0_call0_v3) j : BitVec 32), (after (seg 40 47) W (Proc.devRef .tc main_call0_call0_v5) j : BitVec 32))
      = (IntOp.addi (W (Proc.devRef .tc main_call0_v18) j : BitVec 32) 0#32, IntOp.addi (W (Proc.devRef .tc main_call0_v17) j : BitVec 32) 42#32) := by
  after_reads_simp
  refine Eq.trans (b := (IntOp.addi (W (Proc.devRef .tc main_call0_v18) j : BitVec 32) (spread (W (Proc.devRef .tc main_call0_v5)) j),
    IntOp.addi (W (Proc.devRef .tc main_call0_v17) j : BitVec 32) (spread (W (Proc.devRef .tc main_call0_v7)) j))) rfl ?_
  rw [spread_at h0, spread_at h1]

/-- The two words make one. -/
theorem mix (i : S64x1000000.Idx) : (after (seg 262 263) W (Proc.devRef .tc main_call0_v20) i : BitVec 32)
    = IntOp.xori (W (Proc.devRef .tc main_call0_v19_0) i : BitVec 32) (W (Proc.devRef .tc main_call0_v19_1) i : BitVec 32) := by
  after_reads_simp
  rfl

/-- The bounds of the uniform draw. -/
theorem bounds : (∀ i, (after (seg 0 40) W (Proc.devRef .tc main_call0_v2) i : F .f32) = FloatOps.ofBits .f32 0x2EDBE6FF#32)
    ∧ ∀ i, (after (seg 0 40) W (Proc.devRef .tc main_call0_v3) i : F .f32) = FloatOps.ofBits .f32 0x3F800000#32 := by
  constructor <;> intro i <;> after_reads_simp <;> rfl

/-- The scaled and masked input. -/
theorem shifted (i : S64x1000000.Idx) : (after (seg 0 40) W (Proc.devRef .tc main_v4) i : F .f32)
    = FloatOps.addf (FloatOps.hostDivf (W (Proc.devRef .tc main_arg0) i : F .f32) (FloatOps.ofBits .f32 0x3F800000#32))
      ((W (Proc.devRef .tc main_arg1) : Vec F S1000000 .f32) (ValueIdx.ix1 (i 1))) := by
  after_reads_simp
  pointwise
  rfl

/-- The lines of the generator keep what is read after them. -/
theorem kept (r : Ref sig .tc) (hr : r = main_v4 ∨ r = main_call0_v2 ∨ r = main_call0_v3) :
    after (seg 40 263) W (Proc.devRef .tc r) = W (Proc.devRef .tc r) := by
  rcases hr with rfl | rfl | rfl <;> after_reads_simp

theorem kept_masked : after (seg 263 284) W (Proc.devRef .tc main_v4) = W (Proc.devRef .tc main_v4) := by
  after_reads_simp

/-- The noise of each word. -/
theorem finish (i : S64x1000000.Idx) (h0 : ∀ j, (W (Proc.devRef .tc main_call0_v2) j : F .f32) = FloatOps.ofBits .f32 0x2EDBE6FF#32)
    (h1 : ∀ j, (W (Proc.devRef .tc main_call0_v3) j : F .f32) = FloatOps.ofBits .f32 0x3F800000#32) :
    (after (seg 263 284) W (Proc.devRef .tc main_v16) i : F .f32) = gumbel (W (Proc.devRef .tc main_call0_v20) i : BitVec 32) := by
  after_reads_simp
  simp only [TRef.ofBuf_toBuf]
  simp -implicitDefEqProofs only [StableHlo.TRef.toBuf, StableHlo.TRef.ofBuf, cast_cast, cast_eq]
  rw [show W (Proc.devRef .tc main_call0_v2) = fun _ => _ from funext h0, show W (Proc.devRef .tc main_call0_v3) = fun _ => _ from funext h1]
  rfl

/-- Each row's largest element and its column, as the reference's reduction picks them. -/
def picked (x : FVec F S64x1000000 .f32) : S64.Idx → F .f32 × BitVec 32 :=
  Host.argReduce (reducer_argmax_f32_i32 (F := F)) x (iotaInDim S64x1000000 32 1) (constant S_ FTy.f32 4286578688#32)
    (constantI S_ 32 0#32) reducesTo_S64x1000000_S64_d1 h_S_

/-- The result is the row of columns stood up. -/
theorem widen (i : S64x1.Idx) : (after (seg 290 291) W (Proc.devRef .tc main_v19) i : BitVec 32)
    = (W (Proc.devRef .tc main_v18) : IVec S64 32) (ValueIdx.ix1 (i 0)) := by
  after_reads_simp
  exact congrArg (W (Proc.devRef .tc main_v18)) (funext fun a => match a with | ⟨0, _⟩ => rfl)

/-- The columns. -/
theorem column (j : S64.Idx) : (after (seg 284 290) W (Proc.devRef .tc main_v18) j : BitVec 32)
    = (picked (addf (W (Proc.devRef .tc main_v4)) (W (Proc.devRef .tc main_v16))) j).2 := by
  after_reads_simp
  simp only [TRef.ofBuf_toBuf]
  simp -implicitDefEqProofs only [StableHlo.TRef.toBuf, StableHlo.TRef.ofBuf, cast_cast, cast_eq]
  exact congrArg Prod.snd rfl

/-- The random words. -/
theorem words (i : S64x1000000.Idx) :
    (upto ops W 263 (Proc.devRef .tc main_call0_v20) i : BitVec 32) = word (BitVec.ofNat 32 ((i 0).val * 1000000 + (i 1).val)) := by
  have h0 : ∀ j, (upto ops W 40 (Proc.devRef .tc main_call0_v5) j : BitVec 32) = 0#32 := fun j => by
    rw [upto_seg W 18 40 (by omega), first_word, upto_seg W 0 18 (by omega), pair0]
  have h1 : ∀ j, (upto ops W 40 (Proc.devRef .tc main_call0_v7) j : BitVec 32) = 42#32 := fun j => by
    rw [upto_seg W 18 40 (by omega), second_word, upto_seg W 0 18 (by omega), pair1]
  have k1 := keys_start _ h0 h1
  rw [← upto_seg W 40 47 (by omega)] at k1
  have k2 := (keys_on _ k1).1
  rw [← upto_seg W 47 90 (by omega)] at k2
  have k3 := (keys_on _ k2).2.1
  rw [← upto_seg W 90 133 (by omega)] at k3
  have k4 := (keys_on _ k3).2.2.1
  rw [← upto_seg W 133 176 (by omega)] at k4
  have k5 := (keys_on _ k4).2.2.2
  rw [← upto_seg W 176 219 (by omega)] at k5
  have h := group5 _ k5 i
  rw [← upto_seg W 219 262 (by omega), upto_seg W 176 219 (by omega), group4 _ k4, upto_seg W 133 176 (by omega), group3 _ k3,
    upto_seg W 90 133 (by omega), group2 _ k2, upto_seg W 47 90 (by omega), group1 _ k1, upto_seg W 40 47 (by omega), start _ h0 h1,
    upto_seg W 18 40 (by omega), low_word, high_word] at h
  rw [upto_seg W 262 263 (by omega), mix]
  unfold word
  rw [show IntOp.addi 0#32 0#32 = 0#32 from rfl] at h
  rw [← h]

/-- The noise array. -/
theorem noise_at (i : S64x1000000.Idx) : (upto ops W 284 (Proc.devRef .tc main_v16) i : F .f32) = noise (i 0).val (i 1).val := by
  have hb := bounds W
  have e : upto ops W 263 = after (seg 40 263) (after (seg 0 40) W) :=
    (upto_seg W 40 263 (by omega)).trans (congrArg _ (upto_seg W 0 40 (by omega)))
  rw [upto_seg W 263 284 (by omega), finish, words]
  · rfl
  · rw [e, kept _ _ (by simp)]; exact hb.1
  · rw [e, kept _ _ (by simp)]; exact hb.2

/-- The noisy scores. -/
def scores (x : FVec F S64x1000000 .f32) (y : FVec F S1000000 .f32) : FVec F S64x1000000 .f32 := fun i =>
  FloatOps.addf (FloatOps.addf (FloatOps.hostDivf (x i) (FloatOps.ofBits .f32 0x3F800000#32)) (y (ValueIdx.ix1 (i 1))))
    (noise (i 0).val (i 1).val)

/-- The reference's result: the column of each row's largest score. -/
theorem result_at (i : S64x1.Idx) : (after ops W (Proc.devRef .tc main_v19) i : BitVec 32)
    = (picked (scores (W (Proc.devRef .tc main_arg0)) (W (Proc.devRef .tc main_arg1))) (ValueIdx.ix1 (i 0))).2 := by
  have e (k : S64x1000000.Idx) : (upto ops W 284 (Proc.devRef .tc main_v4) k : F .f32) = after (seg 0 40) W (Proc.devRef .tc main_v4) k := by
    rw [upto_seg W 263 284 (by omega), kept_masked, upto_seg W 40 263 (by omega), kept _ _ (Or.inl rfl), upto_seg W 0 40 (by omega)]
    rfl
  have e' : addf (upto ops W 284 (Proc.devRef .tc main_v4)) (upto ops W 284 (Proc.devRef .tc main_v16))
      = scores (W (Proc.devRef .tc main_arg0)) (W (Proc.devRef .tc main_arg1)) :=
    funext fun k => congrArg₂ FloatOps.addf ((e k).trans (shifted W k)) (noise_at W k)
  rw [← upto_all, upto_seg W 290 291 (by omega), widen, upto_seg W 284 290 (by omega), column, e']

end Cert.ReferenceIdeal.Hand

end
-- ==== Proof.RefBest.lean ====
/- The reference's reduction at exact arithmetic: it picks each row's first largest column. -/
module

public import proofs.«01_k».proof.Proof.RefNoise
public import proofs.«01_k».proof.Proof.Best

@[expose] public section

noncomputable section

namespace Cert.ReferenceIdeal.Hand

open Idealize.ShloMosaic Idealize.ShloMosaic.TcCoe
open Cert.ReferenceIdeal.Gen Cert.Best

/-- The row of an array as a function of the column's number, −∞ past its end. -/
def row (x : FVec Ideal S64x1000000 .f32) (r : Fin 64) (k : ℕ) : EReal :=
  if h : k < 1000000 then x (ValueIdx.ix2 r ⟨k, h⟩) else ⊥

theorem row_at (x : FVec Ideal S64x1000000 .f32) (i : S64x1000000.Idx) : row x (i 0) (i 1).val = x i := by
  unfold row
  rw [dif_pos (show (i 1).val < 1000000 from (i 1).isLt)]
  exact congrArg x (funext fun a => match a with | ⟨0, _⟩ => rfl | ⟨1, _⟩ => rfl)

theorem or_and_bits : ∀ a b c d : Bool,
    (IntOp.ori (IntOp.ori (.ofBool a) (.ofBool b)) (IntOp.andi (.ofBool c) (.ofBool d)) = 1) = ((a || b || (c && d)) = true) := by decide
theorem or_bits : ∀ a b : Bool, (IntOp.ori (.ofBool a) (.ofBool b) = 1) = ((a || b) = true) := by decide

/-- The order of two column words is the order of the columns. -/
theorem slt_columns {c k : ℕ} (hc : c < 1000000) (hk : k < 1000000) : (BitVec.ofNat 32 c).slt (BitVec.ofNat 32 k) = decide (c < k) := by
  have h {n : ℕ} (hn : n < 1000000) : (BitVec.ofNat 32 n).toInt = (n : ℤ) := by
    rw [BitVec.toInt_eq_toNat_of_lt, BitVec.toNat_ofNat, Nat.mod_eq_of_lt (by omega)]
    rw [BitVec.toNat_ofNat]
    omega
  rw [BitVec.slt, h hc, h hk]
  exact decide_eq_decide.mpr Nat.cast_lt

theorem columns_inj {c d : ℕ} (e : BitVec.ofNat 32 c = BitVec.ofNat 32 d) (hc : c < 1000000) (hd : d < 1000000) : c = d := by
  have := congrArg BitVec.toNat e
  simp only [BitVec.toNat_ofNat] at this
  omega

/-- One step of the reduction. -/
theorem step_best {S : ℕ → Prop} {f : ℕ → EReal} {p : Ideal .f32 × BitVec 32} (h : IsBest S f p.1 p.2) (k : ℕ) (hk : k < 1000000) :
    IsBest (fun n => S n ∨ n = k) f (reducer_argmax_f32_i32 (F := Ideal) p (f k, BitVec.ofNat 32 k)).1
      (reducer_argmax_f32_i32 (F := Ideal) p (f k, BitVec.ofNat 32 k)).2 := by
  obtain ⟨v, i⟩ := p
  obtain ⟨c, rfl, hc, -⟩ := id h
  unfold reducer_argmax_f32_i32
  simp only [Ideal.cmpf_def, Ideal.cmp, IntOp.cmpi, slt_columns hc hk, Scalar.select, or_and_bits, or_bits, Bool.or_eq_true,
    Bool.and_eq_true, decide_eq_true_eq, ne_eq, not_true_eq_false, or_false]
  rcases lt_trichotomy v (f k) with hv | hv | hv
  · rw [if_neg (not_lt_of_gt hv), if_neg (by rintro (h | h); exacts [absurd h (not_lt_of_gt hv), absurd h.1 (ne_of_lt hv)])]
    exact h.take k hk (Or.inl hv)
  · have hn : ¬f k < v := fun h => absurd (hv ▸ h) (lt_irrefl _)
    rw [if_neg hn]
    by_cases hck : c < k
    · rw [if_pos (Or.inr ⟨hv, hck⟩)]
      have := h.keep k (Or.inr ⟨hv.symm, fun d e hd => (columns_inj e hc hd) ▸ hck.le⟩)
      rwa [← hv]
    · rw [if_neg (by rintro (h | h); exacts [hn h, hck h.2])]
      exact h.take k hk (Or.inr ⟨hv.symm, fun d e hd => (columns_inj e hc hd) ▸ not_lt.mp hck⟩)
  · rw [if_pos hv, if_pos (Or.inl hv)]
    exact h.keep k (Or.inl hv)

/-- The reduction over a list of columns, in any order. -/
theorem fold_best {α : Type} (g : α → ℕ) {f : ℕ → EReal} (l : List α) (hg : ∀ a ∈ l, g a < 1000000) :
    ∀ {S : ℕ → Prop} {p : Ideal .f32 × BitVec 32}, IsBest S f p.1 p.2 →
      IsBest (fun n => S n ∨ ∃ a ∈ l, g a = n) f ((l.map fun a => (f (g a), BitVec.ofNat 32 (g a))).foldl (reducer_argmax_f32_i32 (F := Ideal)) p).1
        ((l.map fun a => (f (g a), BitVec.ofNat 32 (g a))).foldl (reducer_argmax_f32_i32 (F := Ideal)) p).2 := by
  induction l with
  | nil => exact fun h => h.congr fun k => ⟨Or.inl, fun h => h.elim id fun ⟨_, h, _⟩ => absurd h List.not_mem_nil⟩
  | cons a l ih =>
    intro S p h
    refine (ih (fun b hb => hg b (List.mem_cons_of_mem _ hb)) (step_best h (g a) (hg a List.mem_cons_self))).congr fun k => ?_
    simp only [List.mem_cons, exists_eq_or_imp, @eq_comm _ k, or_assoc]

/-- An index that drops to a row lies in it. -/
theorem drop_row (i : S64x1000000.Idx) (r : Fin 64) : reducesTo_S64x1000000_S64_d1.drop i = ValueIdx.ix1 r ↔ i 0 = r := by
  have e : (reducesTo_S64x1000000_S64_d1.drop i 0 : ℕ) = i 0 := Shape.ReducesTo.drop_apply_val_of_eq _ i 0 0
  constructor
  · intro h
    rw [h] at e
    exact Fin.ext e.symm
  · rintro rfl
    exact funext fun a => match a with | ⟨0, _⟩ => Fin.ext e

/-- What the reduction picks in a row. -/
theorem picked_best (x : FVec Ideal S64x1000000 .f32) (r : Fin 64) :
    IsBest (· < 1000000) (row x r) (picked x (ValueIdx.ix1 r)).1 (picked x (ValueIdx.ix1 r)).2 := by
  have e : picked x (ValueIdx.ix1 r) = (((List.finRange S64x1000000.numel).filter fun n =>
        reducesTo_S64x1000000_S64_d1.drop (S64x1000000.rowMajor.symm n) = ValueIdx.ix1 r).map
      fun n => (row x r (S64x1000000.rowMajor.symm n 1).val, BitVec.ofNat 32 (S64x1000000.rowMajor.symm n 1).val)).foldl
        (reducer_argmax_f32_i32 (F := Ideal)) (⊥, 0#32) := by
    unfold picked
    rw [Ideal.argReduce_eq_reduce2, Host.reduce2_eq_foldl_fiber]
    unfold Host.argReduceFiber
    have hinit : ((constant S_ FTy.f32 4286578688#32 : FVec Ideal S_ .f32) (Shape.Idx.first h_S_)) = ⊥ := by
      show Ideal.ofBits .f32 0xFF800000#32 = ⊥
      simp [Ideal.ofBits, Ideal.ieee]
    rw [hinit]
    refine congrArg (List.foldl _ _) (List.map_congr_left fun n hn => ?_)
    have := (drop_row _ r).mp (of_decide_eq_true (List.mem_filter.mp hn).2)
    rw [← this, row_at]
    rfl
  rw [e]
  refine (fold_best (fun n : Fin S64x1000000.numel => (S64x1000000.rowMajor.symm n 1).val) _ (fun n _ => (S64x1000000.rowMajor.symm n 1).isLt) IsBest.start).congr fun k => ?_
  constructor
  · rintro (h | ⟨n, _, rfl⟩)
    · exact h.elim
    · exact (S64x1000000.rowMajor.symm n 1).isLt
  · refine fun hk => Or.inr ⟨S64x1000000.rowMajor (ValueIdx.ix2 r ⟨k, hk⟩), List.mem_filter.mpr ⟨List.mem_finRange _, ?_⟩, ?_⟩
    · rw [Equiv.symm_apply_apply]
      exact decide_eq_true ((drop_row _ r).mpr rfl)
    · rw [Equiv.symm_apply_apply]

end Cert.ReferenceIdeal.Hand

end
-- ==== Proof.Equal.lean ====
/- The two programs at exact arithmetic end with the same positions. -/
module

public import proofs.«01_k».proof.Defs
public import proofs.«01_k».proof.Proof.KernelValue
public import proofs.«01_k».proof.Proof.RefBest

@[expose] public section

noncomputable section

namespace Cert.Equal

open Idealize.ShloMosaic Idealize.ShloMosaic.TcCoe Idealize.ShloMosaic.StableHlo
open Idealize.SL Idealize.SL.Sem
open Cert.KernelIdeal Cert.KernelIdeal.Hand Cert.Best

/-- The reference's temperature is one. -/
theorem one_word : (FloatOps.ofBits .f32 0x3F800000#32 : Ideal .f32) = (1 : EReal) := by
  show Ideal.ofBits .f32 0x3F800000#32 = (1 : EReal)
  simp [Ideal.ofBits, Ideal.ieee, -EReal.coe_mul]
  norm_num

theorem over_one (x : Ideal .f32) : FloatOps.hostDivf x (FloatOps.ofBits .f32 0x3F800000#32) = x := by
  rw [one_word]
  show Ideal.div x 1 = x
  rw [Ideal.div, if_neg one_ne_zero, inv_one, mul_one]

variable (m : (ℓ : Loc nD τ sig) → Buf (Elt Ideal) ℓ) (c : Dev nD)

/-- Both programs score a column alike. -/
theorem row_score (r : Fin 64) (k : ℕ) (h : k < 1000000) :
    Cert.ReferenceIdeal.Hand.row (Cert.ReferenceIdeal.Hand.scores (arg0 m c) (arg1 m c)) r k = score m c r k := by
  unfold Cert.ReferenceIdeal.Hand.row score
  rw [dif_pos h, dif_pos h, Cert.ReferenceIdeal.Hand.scores, over_one]
  rfl

theorem best_congr {S T : ℕ → Prop} {f g : ℕ → EReal} {v : EReal} {i : BitVec 32} (h : IsBest S f v i) (e : ∀ k, T k ↔ S k)
    (hf : ∀ k, T k → g k = f k) : IsBest T g v i := by
  obtain ⟨d, hi, hd, hc, hk⟩ := h
  exact ⟨d, hi, hd, hc.imp_left fun h => ⟨(e d).mpr h.1, h.2.trans (hf d ((e d).mpr h.1)).symm⟩, fun k hT => by
    rw [hf k hT]; exact hk k ((e k).mp hT)⟩

/-- The kernel's position of a row is the reference's. -/
theorem position (r : Fin 64) : (carried m c cfg0.N le_rfl).2 (ValueIdx.ix2 r 0)
    = (Cert.ReferenceIdeal.Hand.picked (Cert.ReferenceIdeal.Hand.scores (arg0 m c) (arg1 m c)) (ValueIdx.ix1 r)).2 := by
  refine IsBest.unique (S := (· < 1000000)) (by norm_num)
    (best_congr (carried_best m c r cfg0.N le_rfl) (fun k => ?_) fun k h => row_score m c r k h)
    (Cert.ReferenceIdeal.Hand.picked_best _ r)
  have hN : cfg0.N = 31 := Cert.KernelIdeal.Gen.N_0
  rw [hN]
  omega

end Cert.Equal

end
-- ==== Proof.lean ====
/- The claims: every program runs, leaves its arguments as they were and its counters at zero; the idealized kernel is
   the kernel with its stand-in for −∞ named; at exact arithmetic kernel and reference end with the same positions. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The idealized kernel ends with the positions its last point carries. -/
theorem kernel_result (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v187)
          = (Cert.KernelIdeal.Hand.carried m c Cert.KernelIdeal.cfg0.N le_rfl).2 :=
  θ_run_mono (Cert.KernelIdeal.Hand.run_main m g) fun r h c => ((h c).1 3).trans (Cert.KernelIdeal.Hand.result_eq m c)

theorem algebraic : Cert.algebraic_KernelIdeal_ReferenceIdeal := by
  intro m g m' g' _ hagree
  refine ⟨fun c => (Cert.KernelIdeal.Hand.carried m c Cert.KernelIdeal.cfg0.N le_rfl).2,
    θ_run_mono (θ_run_and (kernel_result m g) (Cert.KernelIdeal.Hand.unchanged m g)) fun r h c => ⟨h.1 c, h.2 c⟩,
    θ_run_mono (Cert.ReferenceIdeal.Hand.run m' g') fun r h c =>
      ⟨(h c Cert.ReferenceIdeal.main_v19).trans (funext fun i => ?_),
        (h c Cert.ReferenceIdeal.main_arg0).trans (Cert.ReferenceIdeal.Hand.kept0 _),
        (h c Cert.ReferenceIdeal.main_arg1).trans (Cert.ReferenceIdeal.Hand.kept1 _)⟩⟩
  obtain ⟨r, rfl⟩ : ∃ r : Fin 64, i = ValueIdx.ix2 r 0 :=
    ⟨i 0, funext fun a => match a with | ⟨0, _⟩ => rfl | ⟨1, _⟩ => Subsingleton.elim (α := Fin 1) _ _⟩
  have h0 : m' ((c.tc : Thread Cert.ReferenceIdeal.nD Cert.ReferenceIdeal.τ).loc Cert.ReferenceIdeal.main_arg0) = Cert.KernelIdeal.Hand.arg0 m c :=
    (hagree c).1
  have h1 : m' ((c.tc : Thread Cert.ReferenceIdeal.nD Cert.ReferenceIdeal.τ).loc Cert.ReferenceIdeal.main_arg1) = Cert.KernelIdeal.Hand.arg1 m c :=
    (hagree c).2
  refine (Cert.ReferenceIdeal.Hand.result_at _ _).trans (Eq.trans ?_ (Cert.Equal.position m c r).symm)
  rw [← h0, ← h1]

theorem claim : Cert.Claim := ⟨Cert.Kernel.Gen.facts, Cert.KernelIdeal.Gen.facts, Cert.ReferenceIdeal.Gen.facts,
  fun m g _ => Cert.Kernel.Hand.frame_run m g, fun m g _ => Cert.KernelIdeal.Hand.frame_run m g,
  fun m g _ => Cert.ReferenceIdeal.Hand.frame_run m g,
  IdealRules.named_const.statement Cert.KernelIdeal.κ "neg" .f32 0xFF61B1E6#32 ⊥ rfl, algebraic⟩

end Cert.Proof

end
